-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def holds_ReferenceIdeal_near_reference [hReferenceIdeal : Cert.ReferenceIdeal.Facts] [hPost_near_reference : Cert.Post_near_reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ (Cert.Post_near_reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (r.2.mem ((c.tc : Thread Cert.ReferenceIdeal.nD Cert.ReferenceIdeal.τ).loc Cert.ReferenceIdeal.main_v15))) = (fun _ => 1#1))

def Claim : Prop :=
  ∃ (hKernel : Cert.Kernel.Facts) (hKernelIdeal : Cert.KernelIdeal.Facts) (hReferenceIdeal : Cert.ReferenceIdeal.Facts) (hPost_near_reference : Cert.Post_near_reference.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_reference (hReferenceIdeal := hReferenceIdeal) (hPost_near_reference := hPost_near_reference)
-- ==== Post_near_reference.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  bcast_S_S1 : S_.BroadcastsInDim S1 (![] : Fin 0 → Fin S1.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn_clip {F : FTy → Type} [FloatOps F] (arg0 : FVec F S4096x2048 .f32) (arg1 : FVec F S_ .f32) (arg2 : FVec F S_ .f32) : FVec F S4096x2048 .f32 :=
  let v0 : FVec F S_ .f32 := id arg1
  let v1 : FVec F S4096x2048 .f32 := broadcastInDim S4096x2048 ![] bcast_S_S4096x2048 v0
  let v2 : FVec F S4096x2048 .f32 := maximumf v1 arg0
  let v3 : FVec F S_ .f32 := id arg2
  let v4 : FVec F S4096x2048 .f32 := broadcastInDim S4096x2048 ![] bcast_S_S4096x2048 v3
  let v5 : FVec F S4096x2048 .f32 := minimumf v4 v2
  v5

def fn_clip_0 {F : FTy → Type} [FloatOps F] (arg0 : FVec F S4096x2048 .f32) (arg1 : FVec F S1 .f32) (arg2 : FVec F S1 .f32) : FVec F S4096x2048 .f32 :=
  let v0 : FVec F S1x1 .f32 := broadcastInDim S1x1 ![1] bcast_S1_S1x1_1 arg1
  let v1 : FVec F S4096x2048 .f32 := broadcastInDim S4096x2048 ![0, 1] bcast_S1x1_S4096x2048_0_1 v0
  let v2 : FVec F S4096x2048 .f32 := maximumf v1 arg0
  let v3 : FVec F S1x1 .f32 := broadcastInDim S1x1 ![1] bcast_S1_S1x1_1 arg2
  let v4 : FVec F S4096x2048 .f32 := broadcastInDim S4096x2048 ![0, 1] bcast_S1x1_S4096x2048_0_1 v3
  let v5 : FVec F S4096x2048 .f32 := minimumf v4 v2
  v5

def fn_part1 {F : FTy → Type} [FloatOps F] (main_v4 : FVec F S4096x2048 .f32) (main_v12 : FVec F S1 .f32) (main_v18 : FVec F S4096x2048 .f32) : IVec S4096x2048 1 :=
  let main_v19 : FVec F S4096x2048 .f32 := Host.absf main_v18
  let main_cst_4 : FVec F S_ .f32 := constant S_ .f32 0x3F000000#32
  let main_v20 : FVec F S1 .f32 := broadcastInDim S1 ![] bcast_S_S1 main_cst_4
  let main_v21 : FVec F S1 .f32 := mulf main_v20 main_v12
  let main_v22 : FVec F S1x1 .f32 := broadcastInDim S1x1 ![1] bcast_S1_S1x1_1 main_v21
  let main_v23 : FVec F S4096x2048 .f32 := broadcastInDim S4096x2048 ![0, 1] bcast_S1x1_S4096x2048_0_1 main_v22
  let main_v24 : IVec S4096x2048 1 := cmpf .ole main_v19 main_v23
  let main_v25 : FVec F S4096x2048 .f32 := Host.absf main_v4
  let main_cst_5 : FVec F S_ .f32 := constant S_ .f32 0x42700000#32
  let main_v26 : FVec F S4096x2048 .f32 := broadcastInDim S4096x2048 ![] bcast_S_S4096x2048 main_cst_5
  let main_v27 : IVec S4096x2048 1 := cmpf .ogt main_v25 main_v26
  let main_v28 : IVec S4096x2048 1 := ori main_v24 main_v27
  main_v28

def fn {F : FTy → Type} [FloatOps F] (main_arg0 : FVec F S4096x4096 .f32) (main_arg1 : FVec F S4096x2048 .f32) (main_arg2 : FVec F S1 .f32) (main_arg3 : FVec F S1 .f32) (main_arg4 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_cst_0 : FVec F S_ .f32 := constant S_ .f32 0x42700000#32
  let main_v5 : FVec F S4096x2048 .f32 := fn_clip (F := F) main_v4 main_cst main_cst_0
  let main_v6 : FVec F S4096x2048 .f32 := Host.negf main_v5
  let main_v7 : FVec F S4096x2048 .f32 := Host.exp main_v6
  let main_cst_1 : FVec F S_ .f32 := constant S_ .f32 0x3F800000#32
  let main_v8 : FVec F S4096x2048 .f32 := broadcastInDim S4096x2048 ![] bcast_S_S4096x2048 main_cst_1
  let main_v9 : FVec F S4096x2048 .f32 := addf main_v8 main_v7
  let main_v10 : FVec F S4096x2048 .f32 := Host.divf main_v4 main_v9
  let main_v11 : FVec F S1 .f32 := mulf main_arg2 main_arg3
  let main_v12 : FVec F S1 .f32 := Host.absf main_v11
  let main_cst_2 : FVec F S_ .f32 := constant S_ .f32 0xC2FE0000#32
  let main_v13 : FVec F S1 .f32 := broadcastInDim S1 ![] bcast_S_S1 main_cst_2
  let main_v14 : FVec F S1 .f32 := mulf main_v13 main_v12
  let main_cst_3 : FVec F S_ .f32 := constant S_ .f32 0x42FE0000#32
  let main_v15 : FVec F S1 .f32 := broadcastInDim S1 ![] bcast_S_S1 main_cst_3
  let main_v16 : FVec F S1 .f32 := mulf main_v15 main_v12
  let main_v17 : FVec F S4096x2048 .f32 := fn_clip_0 (F := F) main_v10 main_v14 main_v16
  let main_v18 : FVec F S4096x2048 .f32 := subf main_arg4 main_v17
  fn_part1 (F := F) main_v4 main_v12 main_v18
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S4x4096x128 : Shape := ⟨3, ![4, 4096, 128]⟩
abbrev S256x2048 : Shape := ⟨2, ![256, 2048]⟩
abbrev S4 : Shape := ⟨1, ![4]⟩
abbrev S15 : Shape := ⟨1, ![15]⟩
abbrev S_ : Shape := ⟨0, ![]⟩
abbrev S1x4096x128 : Shape := ⟨3, ![1, 4096, 128]⟩
abbrev S256x128 : Shape := ⟨2, ![256, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S256x4096, .fp8e4m3⟩
  | .local _ .vmem, ⟨3, _⟩ => ⟨S4x4096x128, .f32⟩
  | .local _ .vmem, ⟨4, _⟩ => ⟨S256x2048, .i8⟩
  | .local _ .vmem, ⟨5, _⟩ => ⟨S4096x128, .i8⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 32 := Scalar.addi v2 c1_i32_1
  let c16_i32_2 : BitVec 32 := 16#32
  let v8 : BitVec 32 := Scalar.remsi v7 c16_i32_2
  let c1_i32_4 : BitVec 32 := 1#32
  let v9 : BitVec 32 := Scalar.muli v8 c1_i32_4
  let v10 : BitVec 32 := Scalar.addi c0_i32 v9
  v10.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v11 : BitVec 32 := Scalar.addi v2 c2_i32
  let c16_i32_5 : BitVec 32 := 16#32
  let v12 : BitVec 32 := Scalar.remsi v11 c16_i32_5
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v15 : BitVec 32 := Scalar.addi v2 c3_i32
  let c16_i32_9 : BitVec 32 := 16#32
  let v16 : BitVec 32 := Scalar.remsi v15 c16_i32_9
  let c1_i32_11 : BitVec 32 := 1#32
  let v17 : BitVec 32 := Scalar.muli v16 c1_i32_11
  let v18 : BitVec 32 := Scalar.addi c0_i32_12 v17
  v18.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v19 : BitVec 32 := Scalar.addi v2 c4_i32
  let c16_i32_13 : BitVec 32 := 16#32
  let v20 : BitVec 32 := Scalar.remsi v19 c16_i32_13
  let c1_i32_15 : BitVec 32 := 1#32
  let v21 : BitVec 32 := Scalar.muli v20 c1_i32_15
  let v22 : BitVec 32 := Scalar.addi c0_i32_16 v21
  v22.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v23 : BitVec 32 := Scalar.addi v2 c5_i32
  let c16_i32_17 : BitVec 32 := 16#32
  let v24 : BitVec 32 := Scalar.remsi v23 c16_i32_17
  let c1_i32_19 : BitVec 32 := 1#32
  let v25 : BitVec 32 := Scalar.muli v24 c1_i32_19
  let v26 : BitVec 32 := Scalar.addi c0_i32_20 v25
  v26.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v27 : BitVec 32 := Scalar.addi v2 c6_i32
  let c16_i32_21 : BitVec 32 := 16#32
  let v28 : BitVec 32 := Scalar.remsi v27 c16_i32_21
  let c1_i32_23 : BitVec 32 := 1#32
  let v29 : BitVec 32 := Scalar.muli v28 c1_i32_23
  let v30 : BitVec 32 := Scalar.addi c0_i32_24 v29
  v30.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v31 : BitVec 32 := Scalar.addi v2 c7_i32
  let c16_i32_25 : BitVec 32 := 16#32
  let v32 : BitVec 32 := Scalar.remsi v31 c16_i32_25
  let c1_i32_27 : BitVec 32 := 1#32
  let v33 : BitVec 32 := Scalar.muli v32 c1_i32_27
  let v34 : BitVec 32 := Scalar.addi c0_i32_28 v33
  v34.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v35 : BitVec 32 := Scalar.addi v2 c8_i32
  let c16_i32_29 : BitVec 32 := 16#32
  let v36 : BitVec 32 := Scalar.remsi v35 c16_i32_29
  let c1_i32_31 : BitVec 32 := 1#32
  let v37 : BitVec 32 := Scalar.muli v36 c1_i32_31
  let v38 : BitVec 32 := Scalar.addi c0_i32_32 v37
  v38.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v39 : BitVec 32 := Scalar.addi v2 c9_i32
  let c16_i32_33 : BitVec 32 := 16#32
  let v40 : BitVec 32 := Scalar.remsi v39 c16_i32_33
  let c1_i32_35 : BitVec 32 := 1#32
  let v41 : BitVec 32 := Scalar.muli v40 c1_i32_35
  let v42 : BitVec 32 := Scalar.addi c0_i32_36 v41
  v42.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v43 : BitVec 32 := Scalar.addi v2 c10_i32
  let c16_i32_37 : BitVec 32 := 16#32
  let v44 : BitVec 32 := Scalar.remsi v43 c16_i32_37
  let c1_i32_39 : BitVec 32 := 1#32
  let v45 : BitVec 32 := Scalar.muli v44 c1_i32_39
  let v46 : BitVec 32 := Scalar.addi c0_i32_40 v45
  v46.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v47 : BitVec 32 := Scalar.addi v2 c11_i32
  let c16_i32_41 : BitVec 32 := 16#32
  let v48 : BitVec 32 := Scalar.remsi v47 c16_i32_41
  let c1_i32_43 : BitVec 32 := 1#32
  let v49 : BitVec 32 := Scalar.muli v48 c1_i32_43
  let v50 : BitVec 32 := Scalar.addi c0_i32_44 v49
  v50.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v51 : BitVec 32 := Scalar.addi v2 c12_i32
  let c16_i32_45 : BitVec 32 := 16#32
  let v52 : BitVec 32 := Scalar.remsi v51 c16_i32_45
  let c1_i32_47 : BitVec 32 := 1#32
  let v53 : BitVec 32 := Scalar.muli v52 c1_i32_47
  let v54 : BitVec 32 := Scalar.addi c0_i32_48 v53
  v54.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 32 := Scalar.addi v2 c13_i32
  let c16_i32_49 : BitVec 32 := 16#32
  let v56 : BitVec 32 := Scalar.remsi v55 c16_i32_49
  let c1_i32_51 : BitVec 32 := 1#32
  let v57 : BitVec 32 := Scalar.muli v56 c1_i32_51
  let v58 : BitVec 32 := Scalar.addi c0_i32_52 v57
  v58.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v59 : BitVec 32 := Scalar.addi v2 c14_i32
  let c16_i32_53 : BitVec 32 := 16#32
  let v60 : BitVec 32 := Scalar.remsi v59 c16_i32_53
  let c1_i32_55 : BitVec 32 := 1#32
  let v61 : BitVec 32 := Scalar.muli v60 c1_i32_55
  let v62 : BitVec 32 := Scalar.addi c0_i32_56 v61
  v62.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v63 : BitVec 32 := Scalar.addi v2 c15_i32
  let c16_i32_57 : BitVec 32 := 16#32
  let v64 : BitVec 32 := Scalar.remsi v63 c16_i32_57
  let c1_i32_59 : BitVec 32 := 1#32
  let v65 : BitVec 32 := Scalar.muli v64 c1_i32_59
  let v66 : BitVec 32 := Scalar.addi c0_i32_60 v65
  v66.toNat
def k0_off1 (d0 : Dev nD) (c1_i32_62 : BitVec 32) : Fin 2 → Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v67 : BitVec 32 := Scalar.addi v2 c1_i32_62
  let c16_i32_63 : BitVec 32 := 16#32
  let v68 : BitVec 32 := Scalar.remsi v67 c16_i32_63
  let c128_i32 : BitVec 32 := 128#32
  let v69 : BitVec 32 := Scalar.muli v68 c128_i32
  ![0, v69.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v130 : BitVec 32 := Scalar.muli v2 c256_i32
  let c0_i32_116 : BitVec 32 := 0#32
  ![v130.toNat, 0]
def k0_dev16 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_109 : BitVec 32 := 1#32
  let v125 : BitVec 32 := Scalar.addi v2 c1_i32_109
  let c16_i32_110 : BitVec 32 := 16#32
  let v126 : BitVec 32 := Scalar.remsi v125 c16_i32_110
  let c1_i32_114 : BitVec 32 := 1#32
  let v131 : BitVec 32 := Scalar.muli v126 c1_i32_114
  let v132 : BitVec 32 := Scalar.addi c0_i32_115 v131
  v132.toNat
def k0_dev17 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_139 : BitVec 32 := 2#32
  let v167 : BitVec 32 := Scalar.addi v2 c2_i32_139
  let c16_i32_140 : BitVec 32 := 16#32
  let v168 : BitVec 32 := Scalar.remsi v167 c16_i32_140
  let c1_i32_145 : BitVec 32 := 1#32
  let v173 : BitVec 32 := Scalar.muli v168 c1_i32_145
  let v174 : BitVec 32 := Scalar.addi c0_i32_146 v173
  v174.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_170 : BitVec 32 := 3#32
  let v209 : BitVec 32 := Scalar.addi v2 c3_i32_170
  let c16_i32_171 : BitVec 32 := 16#32
  let v210 : BitVec 32 := Scalar.remsi v209 c16_i32_171
  let c1_i32_176 : BitVec 32 := 1#32
  let v215 : BitVec 32 := Scalar.muli v210 c1_i32_176
  let v216 : BitVec 32 := Scalar.addi c0_i32_177 v215
  v216.toNat
def k0_dev19 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_200 : BitVec 32 := 4#32
  let v251 : BitVec 32 := Scalar.addi v2 c4_i32_200
  let c16_i32_201 : BitVec 32 := 16#32
  let v252 : BitVec 32 := Scalar.remsi v251 c16_i32_201
  let c1_i32_206 : BitVec 32 := 1#32
  let v257 : BitVec 32 := Scalar.muli v252 c1_i32_206
  let v258 : BitVec 32 := Scalar.addi c0_i32_207 v257
  v258.toNat
def k0_dev20 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_231 : BitVec 32 := 5#32
  let v293 : BitVec 32 := Scalar.addi v2 c5_i32_231
  let c16_i32_232 : BitVec 32 := 16#32
  let v294 : BitVec 32 := Scalar.remsi v293 c16_i32_232
  let c1_i32_237 : BitVec 32 := 1#32
  let v299 : BitVec 32 := Scalar.muli v294 c1_i32_237
  let v300 : BitVec 32 := Scalar.addi c0_i32_238 v299
  v300.toNat
def k0_dev21 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_262 : BitVec 32 := 6#32
  let v335 : BitVec 32 := Scalar.addi v2 c6_i32_262
  let c16_i32_263 : BitVec 32 := 16#32
  let v336 : BitVec 32 := Scalar.remsi v335 c16_i32_263
  let c1_i32_268 : BitVec 32 := 1#32
  let v341 : BitVec 32 := Scalar.muli v336 c1_i32_268
  let v342 : BitVec 32 := Scalar.addi c0_i32_269 v341
  v342.toNat
def k0_dev22 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_293 : BitVec 32 := 7#32
  let v377 : BitVec 32 := Scalar.addi v2 c7_i32_293
  let c16_i32_294 : BitVec 32 := 16#32
  let v378 : BitVec 32 := Scalar.remsi v377 c16_i32_294
  let c1_i32_299 : BitVec 32 := 1#32
  let v383 : BitVec 32 := Scalar.muli v378 c1_i32_299
  let v384 : BitVec 32 := Scalar.addi c0_i32_300 v383
  v384.toNat
def k0_dev23 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_324 : BitVec 32 := 8#32
  let v419 : BitVec 32 := Scalar.addi v2 c8_i32_324
  let c16_i32_325 : BitVec 32 := 16#32
  let v420 : BitVec 32 := Scalar.remsi v419 c16_i32_325
  let c1_i32_330 : BitVec 32 := 1#32
  let v425 : BitVec 32 := Scalar.muli v420 c1_i32_330
  let v426 : BitVec 32 := Scalar.addi c0_i32_331 v425
  v426.toNat
def k0_dev24 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_355 : BitVec 32 := 9#32
  let v461 : BitVec 32 := Scalar.addi v2 c9_i32_355
  let c16_i32_356 : BitVec 32 := 16#32
  let v462 : BitVec 32 := Scalar.remsi v461 c16_i32_356
  let c1_i32_361 : BitVec 32 := 1#32
  let v467 : BitVec 32 := Scalar.muli v462 c1_i32_361
  let v468 : BitVec 32 := Scalar.addi c0_i32_362 v467
  v468.toNat
def k0_dev25 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_386 : BitVec 32 := 10#32
  let v503 : BitVec 32 := Scalar.addi v2 c10_i32_386
  let c16_i32_387 : BitVec 32 := 16#32
  let v504 : BitVec 32 := Scalar.remsi v503 c16_i32_387
  let c1_i32_392 : BitVec 32 := 1#32
  let v509 : BitVec 32 := Scalar.muli v504 c1_i32_392
  let v510 : BitVec 32 := Scalar.addi c0_i32_393 v509
  v510.toNat
def k0_dev26 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_417 : BitVec 32 := 11#32
  let v545 : BitVec 32 := Scalar.addi v2 c11_i32_417
  let c16_i32_418 : BitVec 32 := 16#32
  let v546 : BitVec 32 := Scalar.remsi v545 c16_i32_418
  let c1_i32_423 : BitVec 32 := 1#32
  let v551 : BitVec 32 := Scalar.muli v546 c1_i32_423
  let v552 : BitVec 32 := Scalar.addi c0_i32_424 v551
  v552.toNat
def k0_dev27 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_448 : BitVec 32 := 12#32
  let v587 : BitVec 32 := Scalar.addi v2 c12_i32_448
  let c16_i32_449 : BitVec 32 := 16#32
  let v588 : BitVec 32 := Scalar.remsi v587 c16_i32_449
  let c1_i32_454 : BitVec 32 := 1#32
  let v593 : BitVec 32 := Scalar.muli v588 c1_i32_454
  let v594 : BitVec 32 := Scalar.addi c0_i32_455 v593
  v594.toNat
def k0_dev28 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_479 : BitVec 32 := 13#32
  let v629 : BitVec 32 := Scalar.addi v2 c13_i32_479
  let c16_i32_480 : BitVec 32 := 16#32
  let v630 : BitVec 32 := Scalar.remsi v629 c16_i32_480
  let c1_i32_485 : BitVec 32 := 1#32
  let v635 : BitVec 32 := Scalar.muli v630 c1_i32_485
  let v636 : BitVec 32 := Scalar.addi c0_i32_486 v635
  v636.toNat
def k0_dev29 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_502 : BitVec 32 := 14#32
  let v663 : BitVec 32 := Scalar.addi v2 c14_i32_502
  let c16_i32_503 : BitVec 32 := 16#32
  let v664 : BitVec 32 := Scalar.remsi v663 c16_i32_503
  let c1_i32_508 : BitVec 32 := 1#32
  let v669 : BitVec 32 := Scalar.muli v664 c1_i32_508
  let v670 : BitVec 32 := Scalar.addi c0_i32_509 v669
  v670.toNat
def k0_dev30 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_525 : BitVec 32 := 15#32
  let v697 : BitVec 32 := Scalar.addi v2 c15_i32_525
  let c16_i32_526 : BitVec 32 := 16#32
  let v698 : BitVec 32 := Scalar.remsi v697 c16_i32_526
  let c1_i32_531 : BitVec 32 := 1#32
  let v703 : BitVec 32 := Scalar.muli v698 c1_i32_531
  let v704 : BitVec 32 := Scalar.addi c0_i32_532 v703
  v704.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_548 : BitVec 32 := 256#32
  let v731 : BitVec 32 := Scalar.muli v2 c256_i32_548
  let v732 : Index := Scalar.indexCast v731
  let c0_549 : Index := 0#32
  ![v732.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S1, .f32⟩
  | .hbm, ⟨25, _⟩ => ⟨S1x1, .f32⟩
  | .hbm, ⟨26, _⟩ => ⟨S4096x2048, .f32⟩
  | .hbm, ⟨27, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Shape.lean ====
/-
The kernel's body, written as loops over the offset to the peer.

The printed body is one straight run of operations: fifteen signals, one wait, sixteen tiles, fifteen
pairs of waits, the last store. Here the same operations are written with the offset as a variable, and
`cc0_body_eq` says the printed body at the launch's buffers is that program, by unfolding both.
-/
module

public import proofs.«01_k».proof.Proof.Gen.KernelIdeal.Skeleton
public import proofs.«01_k».proof.Proof.Gen.KernelIdeal.Launch

@[expose] public section

set_option maxRecDepth 16384

noncomputable section

namespace Cert.RunProof

open Cert.KernelIdeal Cert.KernelIdeal.Gen
open Idealize.ShloMosaic Idealize.ShloMosaic.TcCoe
open Idealize.SL Idealize.SL.Sem

variable {F : FTy → Type} [FloatOps F]

/-! ## The buffers and semaphores -/

abbrev xM : Memref sig .tc .vmem S256x4096 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x128 .f32 := Memref.whole cc0_stg3_0
abbrev x8M : Memref sig .tc .vmem S256x4096 .fp8e4m3 := Memref.whole cc0_scratch0
abbrev wtM : Memref sig .tc .vmem S4x4096x128 .f32 := Memref.whole cc0_scratch1
abbrev y8M : Memref sig .tc .vmem S256x2048 .i8 := Memref.whole cc0_scratch2
abbrev ybM : Memref sig .tc .vmem S4096x128 .i8 := Memref.whole cc0_scratch3

abbrev barS : Sem sig := (SemArray.scalar (sig.barrier 0 rfl) : Sems sig S_).sem

theorem inb_slot (s : Fin 4) : ∀ a, (![s.val, 0, 0] : Fin 3 → Nat) a + S1x4096x128.size a ≤ S4x4096x128.size a := by
  revert s; decide +kernel
theorem inb_loadS (s : Fin 4) : ∀ a, (![s.val] : Fin 1 → Nat) a + S1.size a ≤ S4.size a := by revert s; decide +kernel
theorem inb_xferS (i : Fin 15) : ∀ a, (![i.val] : Fin 1 → Nat) a + S1.size a ≤ S15.size a := by revert i; decide +kernel
theorem inb_y8 (o : Fin 16) : ∀ a, (![0, 128 * o.val] : Fin 2 → Nat) a + S256x128.size a ≤ S256x2048.size a := by
  revert o; decide +kernel

abbrev loadSem (s : Fin 4) : DmaSem sig :=
  ((cc0_scratch4.slice (Rect.unit (s := S4) ![s.val] S1.size (inb_loadS s))).squeeze S_ squeezes_S1_S_).sem
abbrev sendSem (i : Fin 15) : DmaSem sig :=
  ((cc0_scratch5.slice (Rect.unit (s := S15) ![i.val] S1.size (inb_xferS i))).squeeze S_ squeezes_S1_S_).sem
abbrev recvSem (i : Fin 15) : DmaSem sig :=
  ((cc0_scratch6.slice (Rect.unit (s := S15) ![i.val] S1.size (inb_xferS i))).squeeze S_ squeezes_S1_S_).sem

/-! ## The views -/

/-- The rectangle of W's 128 columns that device `d` multiplies at offset `o`. -/
abbrev wRect (d : Dev nD) (o : Fin 16) : Rect S4096x2048 :=
  Rect.unit (s := S4096x2048) (k0_off1 d (BitVec.ofNat 32 o.val)) S4096x128.size (k0_off1_inb d o)
abbrev wCol (d : Dev nD) (o : Fin 16) : Memref sig .tc .hbm S4096x128 .f32 := wM.slice (wRect d o) (fun _ => rfl)
abbrev slotRect (s : Fin 4) : Rect S4x4096x128 := Rect.unit (s := S4x4096x128) ![s.val, 0, 0] S1x4096x128.size (inb_slot s)
abbrev slotM (s : Fin 4) : Memref sig .tc .vmem S4096x128 .f32 :=
  (wtM.slice (slotRect s) (fun _ => rfl)).squeeze S4096x128 squeezes_S1x4096x128_S4096x128
abbrev y8Rect (o : Fin 16) : Rect S256x2048 := Rect.unit (s := S256x2048) ![0, 128 * o.val] S256x128.size (inb_y8 o)
abbrev y8C (o : Fin 16) : Memref sig .tc .vmem S256x128 .i8 := y8M.slice (y8Rect o) (fun _ => rfl)
/-- Rows `256 d …` of the landing buffer: where device `d`'s blocks land on every peer. -/
abbrev ybRect (d : Dev nD) : Rect S4096x128 := Rect.unit (s := S4096x128) (k0_off2 d) S256x128.size (k0_off2_inb d)
abbrev ybR (d : Dev nD) : Memref sig .tc .vmem S256x128 .i8 := ybM.slice (ybRect d) (fun _ => rfl)
abbrev x8Rect : Rect S256x4096 := Rect.unit (s := S256x4096) ![0, 0] S256x4096.size inb_S256x4096_S256x4096_0_0
abbrev outRect : Rect S4096x128 := Rect.unit (s := S4096x128) ![0, 0] S4096x128.size inb_S4096x128_S4096x128_0_0

theorem y8_words (o : Fin 16) : (y8Rect o).WholeWords (EltTy.packing .i8) := by revert o; decide +kernel
theorem y8_packed (o : Fin 16) : (y8Rect o).PackedRows (EltTy.packing .i8) := by revert o; decide +kernel

/-! ## The peer at an offset -/

/-- The peer's device id as the kernel computes it: `(own + w) mod 16` by words. -/
def peerW (d0 : Dev nD) (w : BitVec 32) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7 : BitVec 32 := Scalar.addi v2 w
  let c16_i32_2 : BitVec 32 := 16#32
  let v8 : BitVec 32 := Scalar.remsi v7 c16_i32_2
  let c1_i32_4 : BitVec 32 := 1#32
  let v9 : BitVec 32 := Scalar.muli v8 c1_i32_4
  let v10 : BitVec 32 := Scalar.addi c0_i32 v9
  v10.toNat

theorem peerW_eq : ∀ (d : Dev nD) (o : Fin 16), peerW d (BitVec.ofNat 32 o.val) = (d.val + o.val) % 16 := by decide +kernel
theorem peerW_lt (d : Dev nD) (o : Fin 16) : peerW d (BitVec.ofNat 32 o.val) < nD := by
  rw [peerW_eq]; exact Nat.mod_lt _ (by decide)

/-- Offset `i + 1`, for the fifteen peers. -/
abbrev off (i : Fin 15) : Fin 16 := ⟨i.val + 1, by omega⟩

/-! ## The program -/

abbrev P (F : FTy → Type) (α : Type) : Type 1 := Prog (TpuEff nD τ sig (Elt F) Λ₀ .tc) α

/-- Run `f` at each index of the list, in its order. -/
def each {ι : Type} (f : ι → P F PUnit) : List ι → P F PUnit
  | [] => pure ⟨⟩
  | i :: l => f i >>= fun _ => each f l

def signalP (d : Dev nD) (i : Fin 15) : P F PUnit :=
  semSignalWord (⟨peerW d (BitVec.ofNat 32 (off i).val), peerW_lt d (off i)⟩ : Dev nD) barS 1#32

def startP (d : Dev nD) (o : Fin 16) (s : Fin 4) : P F PUnit :=
  Prog.lift (.enqueueDma (wCol d o) (.here (slotM s)) (.dma (loadSem s)) (View.wordExact_bits rfl) ((View.wordExact_bits rfl).reshape _ _) ⟨Or.inl rfl, trivial⟩)

def loadedP (d : Dev nD) (o : Fin 16) (s : Fin 4) : P F PUnit :=
  Prog.lift (.waitDma2 (loadSem s) (wCol d o) (slotM s) (View.wordExact_bits rfl) ((View.wordExact_bits rfl).reshape _ _))

def readX8 : P F (Vec F S256x4096 .fp8e4m3) := Prog.lift (.load x8M x8Rect.toLoadRect (View.loadsAt_vmem h_S256x4096))
def readSlot (s : Fin 4) : P F (Vec F S1x4096x128 .f32) := Prog.lift (.load wtM (slotRect s).toLoadRect (View.loadsAt_vmem h_S1x4096x128))

/-- The tile that goes to the peer at offset `i + 1`: wait for W's columns, compute the block, store it, send it. -/
def tileP (d : Dev nD) (v5 : F .f32) (i : Fin 15) (s : Fin 4) : P F PUnit := do
  loadedP d (off i) s
  let xv ← readX8
  let wv ← readSlot s
  let _ ← Prog.lift (.load y8M (y8Rect (off i)).toLoadRect (View.loadsAt_vmem h_S256x128))
  Prog.lift (.store y8M (y8Rect (off i)) (k0_pay4 v5 xv wv) Finset.univ
    (View.stores_vmem h_S256x128 ((Memref.isWhole_whole _).storeExact_slice rfl _ (y8_packed (off i))) (fun _ => rfl)) (.inl rfl))
  Prog.lift (.enqueueDma (y8C (off i)) (.remote (Dev.tc (⟨peerW d (BitVec.ofNat 32 (off i).val), peerW_lt d (off i)⟩ : Dev nD)) (ybR d) (.dma (sendSem i)))
    (.dma (recvSem i)) ((Memref.isWhole_whole _).wordExact_slice rfl _ (y8_words (off i))) ((Memref.isWhole_whole _).wordExact_slice rfl _ (k0_off2_wordsi8 d))
    ⟨⟨rfl, Or.inl rfl⟩, trivial⟩)

/-- The device's own tile, last: it goes straight into the landing buffer. -/
def ownP (d : Dev nD) (v5 : F .f32) : P F PUnit := do
  loadedP d 0 3
  let xv ← readX8
  let wv ← readSlot 3
  let _ ← Prog.lift (.load ybM (Rect.unit (s := S4096x128) (k0_off3 d) S256x128.size (k0_off3_inb d)).toLoadRect (View.loadsAt_vmem h_S256x128))
  Prog.lift (.store ybM (Rect.unit (s := S4096x128) (k0_off3 d) S256x128.size (k0_off3_inb d)) (k0_pay4 v5 xv wv) Finset.univ
    (View.stores_vmem h_S256x128 ((Memref.isWhole_whole _).storeExact_slice rfl _ (k0_off3_packedi8 d)) (fun _ => rfl)) (.inl rfl))

def drainP (d : Dev nD) (i : Fin 15) : P F PUnit := do
  Prog.lift (.waitDma2 (sendSem i) (ybR d) (y8C (off i)) ((Memref.isWhole_whole _).wordExact_slice rfl _ (k0_off2_wordsi8 d)) ((Memref.isWhole_whole _).wordExact_slice rfl _ (y8_words (off i))))
  Prog.lift (.waitDma2 (recvSem i) (y8C (off i)) (ybR d) ((Memref.isWhole_whole _).wordExact_slice rfl _ (y8_words (off i))) ((Memref.isWhole_whole _).wordExact_slice rfl _ (k0_off2_wordsi8 d)))

/-- The slot of the `t`-th tile. -/
abbrev slotOf (t : ℕ) : Fin 4 := ⟨t % 4, Nat.mod_lt _ (by decide)⟩

/-- A tile with the load of the tile three further on issued first. -/
def stepP (d : Dev nD) (v5 : F .f32) (i : Fin 15) : P F PUnit := do
  startP d ⟨(i.val + 4) % 16, Nat.mod_lt _ (by decide)⟩ (slotOf (i.val + 3))
  tileP d v5 i (slotOf i.val)

def castP : P F PUnit := do
  let v91 ← (Prog.lift (.load xM x8Rect.toLoadRect (View.loadsAt_vmem h_S256x4096)) : P F (Vec F S256x4096 .f32))
  let _ ← (readX8 : P F _)
  Prog.lift (.store x8M x8Rect (k0_pay3 v91) Finset.univ
    (View.stores_vmem h_S256x4096 ((Memref.isWhole_whole _).storeExact_slice rfl _ packedfp8e4m3_S256x4096_S256x4096_0_0) (fun _ => rfl)) (.inl rfl))

def lastP (v5 : F .f32) : P F PUnit := do
  let v886 ← (Prog.lift (.load ybM outRect.toLoadRect (View.loadsAt_vmem h_S4096x128)) : P F (Vec F S4096x128 .i8))
  let _ ← (Prog.lift (.load oM outRect.toLoadRect (View.loadsAt_vmem h_S4096x128)) : P F (Vec F S4096x128 .f32))
  Prog.lift (.store oM outRect (k0_pay1 (k0_pay26 v886) (k0_pay27 v5)) Finset.univ (View.stores_vmem_bits_univ h_S4096x128 rfl) (.inl rfl))

def scaleP : P F (F .f32) := do
  let v3 : Elt F .f32 ← smemLoad sxM (Rect.unit (s := S1) ![0] S1.size inb_S1_S1_0) numel1_S1 rfl
  let v4 : Elt F .f32 ← smemLoad swM (Rect.unit (s := S1) ![0] S1.size inb_S1_S1_0) numel1_S1 rfl
  pure (k0_pay2 v3 v4)

/-- The body at device `d`, after its device id is read. -/
def mainP (d : Dev nD) : P F PUnit := do
  let v5 ← scaleP
  each (signalP d) [0, 1, 2, 3, 4, 5, 6, 7, 8, 9, 10, 11, 12, 13, 14]
  semWaitWord barS 15#32
  each (fun i : Fin 3 => startP d ⟨i.val + 1, by omega⟩ (slotOf i.val)) [0, 1, 2]
  castP
  each (stepP d v5) [0, 1, 2, 3, 4, 5, 6, 7, 8, 9, 10, 11, 12]
  tileP d v5 13 1
  tileP d v5 14 2
  ownP d v5
  each (drainP d) [0, 1, 2, 3, 4, 5, 6, 7, 8, 9, 10, 11, 12, 13, 14]
  lastP v5

set_option maxRecDepth 1000000 in
set_option maxHeartbeats 4000000 in
theorem cc0_body_eq :
    cc0_body (F := F) xM (Memref.isWhole_whole _) wM (Memref.isWhole_whole _) sxM (Memref.isWhole_whole _) swM (Memref.isWhole_whole _) oM (Memref.isWhole_whole _)
      x8M (Memref.isWhole_whole _) wtM (Memref.isWhole_whole _) y8M (Memref.isWhole_whole _) ybM (Memref.isWhole_whole _) cc0_scratch4 cc0_scratch5 cc0_scratch6
      = Prog.op .deviceId fun d => mainP d := by
  rfl

end Cert.RunProof

end
-- ==== Proof.Proto.lean ====
/-
The protocol of the exchange: sixteen devices, an entry handshake of each with each, fifteen transfers from
every device, and four slots filled by local copies.

Three kinds of cells are shared and run on the rounds library: a device's barrier cell (fifteen duties of one
unit, duty `j` paid by the device `j + 1` further on, which hands over the rows of its own landing buffer that
this device's transfer will fill), its fifteen send cells (one duty, giving back the block sent) and its fifteen
receive cells (one duty, giving the rows landed). The four load cells are the device's own.
-/
module

public import proofs.«01_k».proof.Proof.Shape
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.ViewIndex
public import Idealize.ShloMosaic.Lib.Tactic

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

omit [FloatOps F] in
instance ER_landsIn : (ER : Emb UB 𝕄).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- The device `i + 1` further on, -/
def fwd (c : Dev nD) (i : Fin 15) : Dev nD := ⟨(c.val + (i.val + 1)) % 16, Nat.mod_lt _ (by decide)⟩
/-- and the device `i + 1` before. -/
def bwd (c : Dev nD) (i : Fin 15) : Dev nD := ⟨(c.val + (15 - i.val)) % 16, Nat.mod_lt _ (by decide)⟩

theorem bwd_fwd (c : Dev nD) (i : Fin 15) : bwd (fwd c i) i = c := by revert c i; decide +kernel
theorem fwd_bwd (c : Dev nD) (i : Fin 15) : fwd (bwd c i) i = c := by revert c i; decide +kernel
theorem fwd_rev (c : Dev nD) (i : Fin 15) : fwd (fwd c i) i.rev = c := by revert c i; decide +kernel
theorem fwd_inj (c : Dev nD) : Function.Injective (fwd c) := by revert c; decide +kernel
theorem bwd_inj (c : Dev nD) : Function.Injective (bwd c) := by revert c; decide +kernel
theorem erase_fwd (c : Dev nD) : (Finset.univ.erase c) = Finset.univ.map ⟨fwd c, fwd_inj c⟩ := by revert c; decide +kernel
theorem erase_bwd (c : Dev nD) : (Finset.univ.erase c) = Finset.univ.map ⟨bwd c, bwd_inj c⟩ := by revert c; decide +kernel

/-- The rotation by `i + 1`. -/
def rot (i : Fin 15) : Dev nD ≃ Dev nD := ⟨fun c => fwd c i, fun c => bwd c i, fun c => bwd_fwd c i, fun c => fwd_bwd c i⟩

theorem peer_eq (c : Dev nD) (i : Fin 15) :
    (⟨peerW c (BitVec.ofNat 32 (off i).val), peerW_lt c (off i)⟩ : Dev nD) = fwd c i := Fin.ext (peerW_eq c (off i))

/-- How far on `p` is from `s`. -/
def relOff (s p : Dev nD) : Fin 16 := ⟨(p.val + 16 - s.val) % 16, Nat.mod_lt _ (by decide)⟩
theorem relOff_fwd (c : Dev nD) (i : Fin 15) : relOff c (fwd c i) = off i := by revert c i; decide +kernel
theorem relOff_self (c : Dev nD) : relOff c c = 0 := by revert c; decide +kernel

/-- The offset of the `t`-th tile: `1, …, 15, 0`. -/
def offT (t : ℕ) : Fin 16 := ⟨(t + 1) % 16, Nat.mod_lt _ (by decide)⟩
theorem offT_val (i : Fin 15) : offT i.val = off i := by revert i; decide +kernel

/-! ## Index ranges -/

/-- The indices from `k` on, and those below it. -/
def ge (n k : ℕ) : Finset (Fin n) := Finset.univ.filter fun i => k ≤ i.val
def lt (n k : ℕ) : Finset (Fin n) := Finset.univ.filter fun i => i.val < k

theorem ge_zero (n : ℕ) : ge n 0 = Finset.univ := Finset.filter_true_of_mem fun _ _ => Nat.zero_le _
theorem lt_zero (n : ℕ) : lt n 0 = ∅ := Finset.filter_false_of_mem fun _ _ => Nat.not_lt_zero _
theorem ge_top (n : ℕ) : ge n n = ∅ := Finset.filter_false_of_mem fun i _ => Nat.not_le.mpr i.isLt
theorem lt_top' (n : ℕ) : lt n n = Finset.univ := Finset.filter_true_of_mem fun i _ => i.isLt
theorem not_mem_ge (n : ℕ) (i : Fin n) : i ∉ ge n (i.val + 1) := fun h => by
  have := (Finset.mem_filter.mp h).2; omega
theorem not_mem_lt (n : ℕ) (i : Fin n) : i ∉ lt n i.val := fun h => by
  have := (Finset.mem_filter.mp h).2; omega
theorem ge_insert (n : ℕ) (i : Fin n) : ge n i.val = insert i (ge n (i.val + 1)) := by
  ext j; simp only [ge, Finset.mem_filter, Finset.mem_univ, true_and, Finset.mem_insert, Fin.ext_iff]; omega
theorem lt_insert (n : ℕ) (i : Fin n) : lt n (i.val + 1) = insert i (lt n i.val) := by
  ext j; simp only [lt, Finset.mem_filter, Finset.mem_univ, true_and, Finset.mem_insert, Fin.ext_iff]; omega

omit [FloatOps F] in
theorem ge_split {n : ℕ} (i : Fin n) (Φ : Fin n → sProp 𝕄) : bigSep (ge n i.val) Φ = iprop(Φ i ∗ bigSep (ge n (i.val + 1)) Φ) := by
  rw [ge_insert]; exact BI.bigSep_insert (not_mem_ge n i)
omit [FloatOps F] in
theorem lt_split {n : ℕ} (i : Fin n) (Φ : Fin n → sProp 𝕄) : bigSep (lt n (i.val + 1)) Φ = iprop(Φ i ∗ bigSep (lt n i.val) Φ) := by
  rw [lt_insert]; exact BI.bigSep_insert (not_mem_lt n i)

omit [FloatOps F] in
theorem devs_fwd (c : Dev nD) (Φ : Dev nD → sProp 𝕄) :
    bigSep Finset.univ Φ = iprop(Φ c ∗ bigSep Finset.univ fun i : Fin 15 => Φ (fwd c i)) := by
  rw [BI.bigSep_erase (Finset.mem_univ c), erase_fwd, bigSep_map]; rfl
omit [FloatOps F] in
theorem devs_bwd (c : Dev nD) (Φ : Dev nD → sProp 𝕄) :
    bigSep Finset.univ Φ = iprop(Φ c ∗ bigSep Finset.univ fun i : Fin 15 => Φ (bwd c i)) := by
  rw [BI.bigSep_erase (Finset.mem_univ c), erase_bwd, bigSep_map]; rfl

/-! ## The cells -/

abbrev barCell (c : Dev nD) : GSem nD τ sig := ((c : Thread nD τ), .reg barS)
abbrev sendCell (c : Dev nD) (i : Fin 15) : GSem nD τ sig := ((c : Thread nD τ), .dma (sendSem i))
abbrev recvCell (c : Dev nD) (i : Fin 15) : GSem nD τ sig := ((c : Thread nD τ), .dma (recvSem i))
abbrev loadCell (c : Dev nD) (s : Fin 4) : GSem nD τ sig := ((c : Thread nD τ), .dma (loadSem s))

theorem loadSem_val (s : Fin 4) : (loadSem s).val = 4 + s.val := by revert s; decide +kernel
theorem sendSem_val (i : Fin 15) : (sendSem i).val = 8 + i.val := by revert i; decide +kernel
theorem recvSem_val (i : Fin 15) : (recvSem i).val = 23 + i.val := by revert i; decide +kernel

abbrev IsBar (g : GSem nD τ sig) : Prop := g.1.2 = .tc ∧ g.2 = .reg barS
abbrev IsXfer (g : GSem nD τ sig) : Prop := g.1.2 = .tc ∧ ((∃ i, g.2 = .dma (sendSem i)) ∨ ∃ i, g.2 = .dma (recvSem i))

theorem sendSem_inj : Function.Injective sendSem := fun i j h => Fin.ext (by
  have h1 := sendSem_val i; have h2 := sendSem_val j; rw [h] at h1; omega)
theorem recvSem_inj : Function.Injective recvSem := fun i j h => Fin.ext (by
  have h1 := recvSem_val i; have h2 := recvSem_val j; rw [h] at h1; omega)
theorem send_ne_recv (i j : Fin 15) : sendSem i ≠ recvSem j := fun h => by
  have h1 := sendSem_val i; have h2 := recvSem_val j; rw [h] at h1; omega
theorem load_ne_recv (s : Fin 4) (j : Fin 15) : loadSem s ≠ recvSem j := fun h => by
  have h1 := loadSem_val s; have h2 := recvSem_val j; rw [h] at h1; omega

/-- A transfer's credit and a local copy's. -/
abbrev N : ℕ := (y8C 0).view.dmaCredit
abbrev NW : ℕ := (slotM 0).view.dmaCredit
theorem N_pos : 0 < N := View.dmaCredit_pos _ (by decide)
theorem NW_pos : 0 < NW := View.dmaCredit_pos _ (by decide)

/-! ## Contents -/

/-- Device `c`'s rows of x, W, and the two scales, as the body finds them. -/
def xstg (c : Dev nD) : (cc0_stg0_0 : Ref sig .tc).ty.Contents (Elt F) :=
  (win0_0.blk (0 : Fin 1)).view.read (Elt F) ((s₀ m ρ).mem ((c : Thread nD τ).loc main_arg0))
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
def wc (c : Dev nD) : Buf (Elt F) ((c : Thread nD τ).loc main_arg1) := (s₀ m ρ).mem ((c : Thread nD τ).loc main_arg1)

/-- The product of the scales. -/
def scale (c : Dev nD) : F .f32 :=
  k0_pay2 ((sxM.access (Rect.unit (s := S1) ![0] S1.size inb_S1_S1_0)).read (Elt F) (sxstg m ρ c) (Shape.Idx.first (numel1_S1.symm ▸ Nat.one_pos)))
    ((swM.access (Rect.unit (s := S1) ![0] S1.size inb_S1_S1_0)).read (Elt F) (swstg m ρ c) (Shape.Idx.first (numel1_S1.symm ▸ Nat.one_pos)))

/-- W's columns at offset `o` as copied, -/
def wX (c : Dev nD) (o : Fin 16) : S4096x128.Idx → Elt F .f32 := (wCol c o).view.read (Elt F) (wc m ρ c)
/-- and as loaded from a slot. -/
def wV (c : Dev nD) (o : Fin 16) : Vec F S1x4096x128 .f32 := fun i =>
  wX m ρ c o ((Shape.reshapeEquiv (squeezes_S1x4096x128_S4096x128).numel_eq).symm i)

/-- The block device `s` computes at offset `o`. -/
def blk (s : Dev nD) (o : Fin 16) : Vec F S256x128 .i8 := k0_pay4 (scale m ρ s) (k0_pay3 (xstg m ρ s)) (wV m ρ s o)

/-- What device `c`'s landing buffer holds in the end: rows `256 s …` device `s`'s block for it. -/
def yb (c : Dev nD) : (cc0_scratch3 : Ref sig .tc).ty.Contents (Elt F) := fun (i : S4096x128.Idx) =>
  blk m ρ (⟨(i 0).val / 256, Nat.div_lt_of_lt_mul (i 0).isLt⟩ : Fin 16)
    (relOff (⟨(i 0).val / 256, Nat.div_lt_of_lt_mul (i 0).isLt⟩ : Fin 16) c)
    (fun a => match a with
      | ⟨0, _⟩ => ⟨(i 0).val % 256, Nat.mod_lt _ (by decide)⟩
      | ⟨1, _⟩ => ⟨(i 1).val, (i 1).isLt⟩)

/-- The kernel's result on device `c`. -/
def outAt (c : Dev nD) : (cc0_stg3_0 : Ref sig .tc).ty.Contents (Elt F) := k0_pay1 (k0_pay26 (yb m ρ c)) (k0_pay27 (scale m ρ c))

theorem ybRect_emb0 (s : Dev nD) (z : S256x128.Idx) : (((ybRect s).emb z) 0).val = 256 * s.val + (z 0).val := by
  show (k0_off2 s) 0 + 1 * (z 0).val = _; rw [k0_off2_eq]; simp
theorem ybRect_emb1 (s : Dev nD) (z : S256x128.Idx) : (((ybRect s).emb z) 1).val = (z 1).val := by
  show (k0_off2 s) 1 + 1 * (z 1).val = _; rw [k0_off2_eq]; simp

theorem yb_read (s c : Dev nD) : (ybR s).view.read (Elt F) (yb m ρ c) = blk m ρ s (relOff s c) := by
  funext z
  show yb m ρ c ((ybRect s).emb z) = _
  have hz : (z 0).val < 256 := (z 0).isLt
  have h0 := ybRect_emb0 s z
  have h1 := ybRect_emb1 s z
  have hs : (⟨(((ybRect s).emb z) 0).val / 256, Nat.div_lt_of_lt_mul (((ybRect s).emb z) 0).isLt⟩ : Fin 16) = s :=
    Fin.ext (by show (((ybRect s).emb z) 0).val / 256 = s.val; rw [h0]; omega)
  unfold yb
  rw [hs]
  congr 1
  funext a
  match a with
  | ⟨0, _⟩ => exact Fin.ext (by show (((ybRect s).emb z) 0).val % 256 = (z 0).val; rw [h0]; omega)
  | ⟨1, _⟩ => exact Fin.ext h1

/-! ## Pieces -/

omit [FloatOps F] in
/-- Contents a view reads alike are the same held through it. -/
theorem pointsTo_of_read {c : Thread nD τ} {sp : Space} {s : Idealize.ShloMosaic.Shape} {e : EltTy} (v : View sig c.2.kind sp s e)
    (f g : Buf (Elt F) (v.loc c)) (h : v.read (Elt F) f = v.read (Elt F) g) :
    (v.loc c ↦[v.set]{fullShare} f : sProp 𝕄) = (v.loc c ↦[v.set]{fullShare} g) :=
  pointsTo_congr fun i hi => by
    obtain ⟨z, -, rfl⟩ := Finset.mem_map.mp hi
    exact View.eq_of_read_eq (congrFun h z)

/-- The columns of W at offset `o`, whole and unchanged; -/
def wPts (c : Dev nD) (o : Fin 16) : sProp 𝕄 := (wCol c o).view.loc (c : Thread nD τ) ↦[(wCol c o).view.set]{fullShare} wc m ρ c
/-- a slot at anything, and holding W's columns at offset `o`; -/
def slotAny (c : Dev nD) (s : Fin 4) : sProp 𝕄 := iprop(∃ f, (slotM s).view.loc (c : Thread nD τ) ↦[(slotM s).view.set]{fullShare} f)
def slotHas (c : Dev nD) (s : Fin 4) (o : Fin 16) : sProp 𝕄 := owns (c : Thread nD τ) (slotM s) fullShare (wX m ρ c o)
/-- the cast rows of x; -/
def x8Pts (c : Dev nD) : sProp 𝕄 := x8M.view.loc (c : Thread nD τ) ↦[Finset.univ]{fullShare} k0_pay3 (xstg m ρ c)
/-- a chunk of the block buffer at anything; -/
def y8Any (c : Dev nD) (o : Fin 16) : sProp 𝕄 := iprop(∃ f, (y8C o).view.loc (c : Thread nD τ) ↦[(y8C o).view.set]{fullShare} f)
/-- rows `256 s …` of device `c`'s landing buffer at anything, and holding device `s`'s block. -/
def rowAny (c s : Dev nD) : sProp 𝕄 := iprop(∃ f, (ybR s).view.loc (c : Thread nD τ) ↦[(ybR s).view.set]{fullShare} f)
def rowHas (c s : Dev nD) : sProp 𝕄 := (ybR s).view.loc (c : Thread nD τ) ↦[(ybR s).view.set]{fullShare} yb m ρ c

omit [FloatOps F] in
instance y8Any_storable (c : Dev nD) (o) : BI.Storable (upEmb : UEmb _ 𝕄) (y8Any (F := F) c o) := by unfold y8Any; infer_instance
omit [FloatOps F] in
instance rowAny_storable (c s : Dev nD) : BI.Storable (upEmb : UEmb _ 𝕄) (rowAny (F := F) c s) := by unfold rowAny; infer_instance
instance rowHas_storable (c s : Dev nD) : BI.Storable (upEmb : UEmb _ 𝕄) (rowHas (F := F) m ρ c s) := by unfold rowHas; infer_instance

/-! ## The schedule -/

/-- One round. A barrier cell's fifteen duties of one unit; a send or receive cell's one of the block's credit. -/
def rd : Rounds.Schedule (GSem nD τ sig) (Fin 15) 𝕄 where
  duties g r := if r = 0 ∧ IsBar g then Finset.univ else if r = 0 ∧ IsXfer g then {0} else ∅
  unitless _ := False
  amount g _ _ := if g.2 = .reg barS then 1 else N
  payload g _ d := match g.2 with
    | .reg _ => rowAny (fwd g.1.1 d) g.1.1
    | .dma q =>
      if h : 23 ≤ q.val ∧ q.val < 38 then rowHas m ρ g.1.1 (bwd g.1.1 ⟨q.val - 23, by omega⟩)
      else if h : 8 ≤ q.val ∧ q.val < 23 then y8Any g.1.1 (off ⟨q.val - 8, by omega⟩) else iprop(emp)
  amount_pos g _ _ _ := by
    by_cases h : g.2 = .reg barS
    · rw [if_pos h]; exact Nat.one_pos
    · rw [if_neg h]; exact N_pos

instance rd_payload_storable (g : GSem nD τ sig) (r : ℕ) (d : Fin 15) :
    BI.Storable (upEmb : UEmb _ 𝕄) ((rd (F := F) m ρ).payload g r d) := by
  dsimp only [rd]
  rcases g with ⟨t, _ | q⟩
  · infer_instance
  · dsimp only; split
    · infer_instance
    · split <;> infer_instance

section Sched
variable (c : Dev nD) (i : Fin 15)

theorem send_ne_bar : (SemLoc.dma (sendSem i) : SemLoc sig) ≠ .reg barS := fun h => by cases h
theorem recv_ne_bar : (SemLoc.dma (recvSem i) : SemLoc sig) ≠ .reg barS := fun h => by cases h

theorem duties_bar : (rd (F := F) m ρ).duties (barCell c) 0 = Finset.univ := by dsimp only [rd]; exact if_pos ⟨rfl, rfl, rfl⟩
theorem duties_send : (rd (F := F) m ρ).duties (sendCell c i) 0 = {0} := by
  dsimp only [rd]; rw [if_neg (fun h => send_ne_bar i h.2.2)]; exact if_pos ⟨rfl, rfl, .inl ⟨i, rfl⟩⟩
theorem duties_recv : (rd (F := F) m ρ).duties (recvCell c i) 0 = {0} := by
  dsimp only [rd]; rw [if_neg (fun h => recv_ne_bar i h.2.2)]; exact if_pos ⟨rfl, rfl, .inr ⟨i, rfl⟩⟩
theorem duties_later (g : GSem nD τ sig) : ∀ r, 1 ≤ r → (rd (F := F) m ρ).duties g r = ∅ :=
  fun r hr => by dsimp only [rd]; rw [if_neg fun h => by omega, if_neg fun h => by omega]

theorem amount_bar (d : Fin 15) : (rd (F := F) m ρ).amount (barCell c) 0 d = 1 := by dsimp only [rd]; exact if_pos rfl
theorem amount_send (d : Fin 15) : (rd (F := F) m ρ).amount (sendCell c i) 0 d = N := by dsimp only [rd]; exact if_neg (send_ne_bar i)
theorem amount_recv (d : Fin 15) : (rd (F := F) m ρ).amount (recvCell c i) 0 d = N := by dsimp only [rd]; exact if_neg (recv_ne_bar i)

theorem expect_bar : (rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c i) 0 = N := by
  unfold Schedule.expect Schedule.amountOf; rw [duties_send, Finset.sum_singleton, amount_send]
theorem expect_recv : (rd (F := F) m ρ).expect (recvCell c i) 0 = N := by
  unfold Schedule.expect Schedule.amountOf; rw [duties_recv, Finset.sum_singleton, amount_recv]

theorem payload_bar (d : Fin 15) : (rd (F := F) m ρ).payload (barCell c) 0 d = rowAny (fwd c d) c := rfl
theorem payload_send (d : Fin 15) : (rd (F := F) m ρ).payload (sendCell c i) 0 d = y8Any c (off i) := by
  have hv := sendSem_val i
  have hi := i.isLt
  dsimp only [rd]
  rw [dif_neg (by rw [hv]; omega), dif_pos (by rw [hv]; omega)]
  exact congrArg (fun k => y8Any c (off k)) (Fin.ext (by show (sendSem i).val - 8 = i.val; omega))
theorem payload_recv (d : Fin 15) : (rd (F := F) m ρ).payload (recvCell c i) 0 d = rowHas m ρ c (bwd c i) := by
  have hv := recvSem_val i
  have hi := i.isLt
  dsimp only [rd]
  rw [dif_pos (by rw [hv]; omega)]
  exact congrArg (fun k => rowHas m ρ c (bwd c k)) (Fin.ext (by show (recvSem i).val - 23 = i.val; omega))

/-- The rest of each round, no duty taken. -/
theorem rest_bar : bigSep ((rd (F := F) m ρ).duties (barCell c) 0 \ ∅) (fun d => (rd (F := F) m ρ).payload (barCell c) 0 d)
    = bigSep (ge 15 0) fun j => rowAny (fwd c j) c := by
  rw [Finset.sdiff_empty, duties_bar, ge_zero]; rfl
theorem rest_send : bigSep ((rd (F := F) m ρ).duties (sendCell c i) 0 \ ∅) (fun d => (rd (F := F) m ρ).payload (sendCell c i) 0 d) = y8Any c (off i) := by
  rw [Finset.sdiff_empty, duties_send, bigSep_singleton, payload_send]
theorem rest_recv : bigSep ((rd (F := F) m ρ).duties (recvCell c i) 0 \ ∅) (fun d => (rd (F := F) m ρ).payload (recvCell c i) 0 d) = rowHas m ρ c (bwd c i) := by
  rw [Finset.sdiff_empty, duties_recv, bigSep_singleton, payload_recv]

end Sched

/-! ## What each device owes; the levels -/

/-- The receive credits still to be sent from the `k`-th transfer on, and the barrier units from the `k`-th signal on. -/
def Orecv (c : Dev nD) (k : ℕ) : CellTallies nD τ sig Unit := ∑ i ∈ ge 15 k, tallyAt (recvCell (fwd c i) i) () N
def Obar (c : Dev nD) (k : ℕ) : CellTallies nD τ sig Unit := ∑ i ∈ ge 15 k, tallyAt (barCell (fwd c i)) () 1
def O₀ (c : Dev nD) : CellTallies nD τ sig Unit := Orecv c 0 + Obar c 0

theorem Orecv_step (c : Dev nD) (i : Fin 15) : Orecv c i.val = Orecv c (i.val + 1) + tallyAt (recvCell (fwd c i) i) () N := by
  unfold Orecv; rw [ge_insert, Finset.sum_insert (not_mem_ge 15 i), add_comm]
theorem Obar_step (c : Dev nD) (i : Fin 15) : Obar c i.val = Obar c (i.val + 1) + tallyAt (barCell (fwd c i)) () 1 := by
  unfold Obar; rw [ge_insert, Finset.sum_insert (not_mem_ge 15 i), add_comm]
theorem Orecv_top (c : Dev nD) : Orecv c 15 = 0 := by unfold Orecv; rw [ge_top]; rfl
theorem Obar_top (c : Dev nD) : Obar c 15 = 0 := by unfold Obar; rw [ge_top]; rfl

theorem sum_tally_apply {I : Type} (s : Finset I) (t : I → CellTallies nD τ sig Unit) (g : GSem nD τ sig) (u : Unit) :
    (∑ i ∈ s, t i) g u = ∑ i ∈ s, t i g u := by
  rw [Finset.sum_apply, Finsupp.finset_sum_apply]

theorem Orecv_pos {c : Dev nD} {k : ℕ} {g : GSem nD τ sig} {u : Unit} (h : 0 < Orecv c k g u) : ∃ d i, g = recvCell d i := by
  unfold Orecv at h
  rw [sum_tally_apply] at h
  by_contra hn
  rw [Finset.sum_eq_zero (fun i _ => by rw [tallyAt_apply, if_neg fun h' => hn ⟨_, _, h'.1⟩])] at h
  exact Nat.lt_irrefl 0 h
theorem Obar_pos {c : Dev nD} {k : ℕ} {g : GSem nD τ sig} {u : Unit} (h : 0 < Obar c k g u) : ∃ d, g = barCell d := by
  unfold Obar at h
  rw [sum_tally_apply] at h
  by_contra hn
  rw [Finset.sum_eq_zero (fun i _ => by rw [tallyAt_apply, if_neg fun h' => hn ⟨_, h'.1⟩])] at h
  exact Nat.lt_irrefl 0 h
theorem O₀_pos {c : Dev nD} {g : GSem nD τ sig} {u : Unit} (h : 0 < O₀ c g u) : (∃ d i, g = recvCell d i) ∨ ∃ d, g = barCell d := by
  unfold O₀ at h
  rw [Pi.add_apply, Finsupp.add_apply] at h
  rcases Nat.eq_zero_or_pos (Orecv c 0 g u) with h0 | h0
  · rw [h0, Nat.zero_add] at h; exact Or.inr (Obar_pos h)
  · exact Or.inl (Orecv_pos h0)

def L (g : GSem nD τ sig) : Finset Unit := if g.1.2 = .tc then {()} else ∅
/-- barrier cells at 1, receive cells at 2, everything else (staging, load, send) at 0. -/
def lv (g : GSem nD τ sig) (_ : Unit) : ℕ := match g.2 with
  | .reg q => if q = barS then 1 else 0
  | .dma q => if 23 ≤ q.val ∧ q.val < 38 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c : Dev nD) (i : Fin 15) (u : Unit) : lv (recvCell c i) u = 2 := by
  have := recvSem_val i
  have := i.isLt
  dsimp only [lv]; exact if_pos (by omega)

omit [FloatOps F] in
theorem mayWait_low (c : Dev nD) (q : DmaSem sig) (hq : q.val < 23) (O : CellTallies nD τ sig Unit)
    (hO : ∀ (g : GSem nD τ sig) (u : Unit), 0 < O g u → (∃ d i, g = recvCell d i) ∨ ∃ d, g = barCell d) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨d, i, rfl⟩ | ⟨d, rfl⟩ <;> exact Finset.mem_singleton_self _)
    (fun p hp => by rw [Finset.mem_singleton.mp hp]; dsimp only [lv]; rw [if_neg (by omega)])
    (fun g u hg => by
      rcases hO g u hg with ⟨d, i, rfl⟩ | ⟨d, rfl⟩
      · rw [lv_recv]; decide
      · rw [lv_bar]; decide)

omit [FloatOps F] in
theorem mayWait_load (c : Dev nD) (s : Fin 4) (k : ℕ) :
    (levAts L lv : sProp 𝕄) ⊢ MayWait (c : Thread nD τ) (.dma (loadSem s)) () (Orecv c k) :=
  mayWait_low c _ (by have := loadSem_val s; omega) _ fun g u h => Or.inl (Orecv_pos h)

omit [FloatOps F] in
/-- At its barrier wait a device owes receive credits only, above its barrier cell. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨d, i, rfl⟩ := Orecv_pos hg; exact Finset.mem_singleton_self _)
    (fun p hp => by rw [Finset.mem_singleton.mp hp]; exact (lv_bar c _).le)
    (fun g u hg => by obtain ⟨d, i, rfl⟩ := Orecv_pos hg; rw [lv_recv]; decide)

end Cert.RunProof

end
-- ==== Proof.Steps.lean ====
/-
The body's operations, each run once at a symbolic offset: a signal, a local copy started and awaited, a tile
computed and sent, the own tile, a pair of waits, the cast of x, the last store.
-/
module

public import proofs.«01_k».proof.Proof.Proto

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a stretch of device `c`'s body. -/
abbrev WP {α : Type} (c : Dev nD) (p : P F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-! ## Loops -/

/-- A loop over a list, by an assertion that moves with the position. -/
theorem wp_each {ι : Type} (c : Dev nD) (f : ι → P F PUnit) : ∀ (l : List ι) (J : ℕ → sProp 𝕄),
    (∀ (k : ℕ) (h : k < l.length), J k ⊢ WP c (f l[k]) fun _ => J (k + 1)) → J 0 ⊢ WP c (each f l) fun _ => J l.length
  | [], J, _ => by
    show _ ⊢ wp frame _ Set.univ (Prog.ret PUnit.unit) _
    rw [wp_ret]
    iintro H; imodintro; iexact H
  | i :: l, J, h => by
    show J 0 ⊢ wp frame _ Set.univ (f i >>= fun _ => each f l) _
    rw [wp_bind]
    refine (h 0 (Nat.succ_pos _)).trans (wp_mono _ _ _ fun _ => ?_)
    exact wp_each c f l (fun k => J (k + 1)) fun k hk => h (k + 1) (Nat.succ_lt_succ hk)

/-! ## The cells' invariants -/

/-- The kinds of a device's cells: barrier, send, receive. -/
abbrev CK : Type := Unit ⊕ Fin 15 ⊕ Fin 15
def kcell (ck : Dev nD × CK) : GSem nD τ sig := match ck.2 with
  | .inl _ => barCell ck.1
  | .inr (.inl i) => sendCell ck.1 i
  | .inr (.inr i) => recvCell ck.1 i
abbrev kB (c : Dev nD) : Dev nD × CK := (c, .inl ())
abbrev kS (c : Dev nD) (i : Fin 15) : Dev nD × CK := (c, .inr (.inl i))
abbrev kR (c : Dev nD) (i : Fin 15) : Dev nD × CK := (c, .inr (.inr i))

/-- Every cell's invariant under the name it was allocated at, and that every cell has reached round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (rd m ρ) (K ck) (kcell ck) := by
  unfold records; exact sep_elim_left.trans (bigSep_elim (Finset.mem_univ ck))
theorem reached_at (K : Dev nD × CK → ℕ) (ck : Dev nD × CK) : records m ρ K ⊢ reached ER (kcell ck) 0 := by
  unfold records; exact sep_elim_right.trans (bigSep_elim (Finset.mem_univ ck))

/-- What a device owes, whatever waits it has made. -/
def owe (c : Dev nD) (O : CellTallies nD τ sig Unit) : sProp 𝕄 := iprop(∃ W, owes (c : Thread nD τ) O W)

variable (K : Dev nD × CK → ℕ) (c : Dev nD)

/-! ## The handshake -/

/-- A signal: the rows of the landing buffer the peer will fill go with it. -/
theorem wp_signal_step (i : Fin 15) :
    iprop(records m ρ K ∗ owe c (Orecv c 0 + Obar c i.val) ∗ dutyTok ER (barCell (fwd c i)) 0 i.rev ∗ rowAny c (fwd c i))
      ⊢ WP c (signalP c i) fun _ => owe (F := F) c (Orecv c 0 + Obar c (i.val + 1)) := by
  unfold signalP owe
  rw [peer_eq]
  simp only [semSignalWord, Prog.lift]
  iintro ⟨#HR, ⟨%W, HO⟩, Htok, Hrow⟩
  iapply (Rounds.wp_signal 𝒱₀ ER (rd m ρ) (c : Thread nD τ) none (dst := (fwd c i : Thread nD τ)) (κ := K (kB (fwd c i)))
      (d := i.rev) (by rw [duties_bar]; exact Finset.mem_univ _) ((amount_bar m ρ (fwd c i) i.rev).trans (by decide)) ()
      (O₀ := Orecv c 0 + Obar c i.val) (Orecv c 0 + Obar c (i.val + 1)) (by rw [Obar_step, add_assoc]; rfl)) $$ [HO Htok Hrow]
  · isplitr; · iapply (inv_at m ρ K (kB (fwd c i))); iexact HR
    isplitl [HO]; · iexact HO
    isplitl [Htok]; · iexact Htok
    isplitl [Hrow]; · rw [payload_bar, fwd_rev]; iexact Hrow
    iapply (reached_at m ρ K (kB (fwd c i))); iexact HR
  iintro HO
  rw [wp_ret]; imodintro
  iexists W; iexact HO

/-- The wait for all fifteen peers: the rows this device's transfers will fill come with it. -/
theorem wp_barrier :
    iprop(records m ρ K ∗ levAts L lv ∗ owe c (Orecv c 0) ∗ cred (tallyAt (barCell c) () 15) ∗ atPos ER (barCell c) 0 ∅ 0)
      ⊢ WP c (semWaitWord barS 15#32) fun _ => iprop(owe (F := F) c (Orecv c 0) ∗ semVal (barCell c) 0 ∗ bigSep (ge 15 0) fun j => rowAny (fwd c j) c) := by
  unfold owe
  simp only [semWaitWord, Prog.lift]
  iintro ⟨#HR, #Hlev, ⟨%W, HO⟩, Hc, Hat⟩
  ihave #HI := (inv_at m ρ K (kB c)) $$ HR
  iapply (Rounds.wp_wait_rest_token 𝒱₀ ER (rd m ρ) (c : Thread nD τ) none (κ := K (kB c))
      (wpE_semWait_eq 𝒱₀ (c : Thread nD τ) none Set.univ) (Set.mem_univ _) () (O := Orecv c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (kB c))) (fun h => h) (R := 0 + 1) (duties_later m ρ (barCell c))) $$ [Hat] with Hz
  · isplitr; · iexact HI
    iexact Hat
  rw [wp_ret]; imodintro
  isplitl [HO]; · iexists _; iexact HO
  isplitl [Hz]; · iexact Hz
  iexact Hp

/-! ## The local copies -/

/-- A copy of W's columns at offset `o` into slot `s`, in flight. -/
def flight (s : Fin 4) (o : Fin 16) : sProp 𝕄 :=
  Transfers.Flight EC (c : Thread nD τ) (.dma (loadSem s)) () NW iprop(slotHas m ρ c s o ∗ wPts m ρ c o)
/-- A slot at rest. -/
def slotFree (s : Fin 4) : sProp 𝕄 := iprop(slotAny c s ∗ semVal (loadCell c s) 0)

/-- What the copy delivers: the slot reads as W's columns, and the columns are back. -/
theorem started (o : Fin 16) (s : Fin 4) (f : Buf (Elt F) ((slotM s).view.loc (c : Thread nD τ))) :
    iprop(((slotM s).view.loc (c : Thread nD τ) ↦[(slotM s).view.set]{fullShare}
          (slotM s).view.write (Elt F) f (ReadAs.same.apply ((wCol c o).view.read (Elt F) (wc m ρ c))) Finset.univ)
        ∗ (wCol c o).view.loc (c : Thread nD τ) ↦[(wCol c o).view.set]{fullShare} wc m ρ c)
      ⊢ iprop(slotHas m ρ c s o ∗ wPts m ρ c o) := by
  unfold slotHas wPts owns
  iintro ⟨Hd, Hw⟩
  isplitl [Hd]
  · iexists _
    isplitr
    swap
    · iexact Hd
    · ipureintro
      rw [View.read_write_univ]; rfl
  · iexact Hw

theorem wp_start (o : Fin 16) (s : Fin 4) :
    iprop(wPts m ρ c o ∗ slotFree c s) ⊢ WP c (startP c o s) fun _ => flight m ρ c s o := by
  unfold startP slotFree slotAny wPts
  simp only [Prog.lift]
  iintro ⟨HW, ⟨%f, Hs⟩, Hv⟩
  iapply (Transfers.wp_dmaLocal (EC := EC) 𝒱₀ (c : Thread nD τ) none () NW rfl NW_pos (Finset.Subset.refl _)) $$ [HW Hs Hv]
  · isplitl [HW]; · iexact HW
    isplitl [Hs]; · iexact Hs
    iexact Hv
  iintro Hf
  rw [wp_ret]; imodintro
  unfold flight
  iapply (Transfers.Flight_mono EC (c : Thread nD τ) (h := started m ρ c o s f))
  iexact Hf

theorem wp_loaded (o : Fin 16) (s : Fin 4) (k : ℕ) :
    iprop(levAts L lv ∗ flight m ρ c s o ∗ owe c (Orecv c k))
      ⊢ WP c (loadedP c o s) fun _ => iprop(slotHas m ρ c s o ∗ wPts m ρ c o ∗ semVal (loadCell c s) 0 ∗ owe (F := F) c (Orecv c k)) := by
  unfold loadedP owe flight
  simp only [Prog.lift]
  iintro ⟨#Hlev, Hf, ⟨%W, HO⟩⟩
  iapply (Transfers.wp_waitLocalO EC 𝒱₀ (c : Thread nD τ) none () rfl) $$ [Hf HO]
  · isplitl [Hf]; · iexact Hf
    isplitl [HO]; · iexact HO
    iapply (mayWait_load c s k); iexact Hlev
  iintro ⟨⟨Hs, Hw⟩, Hv, HO⟩
  rw [wp_ret]; imodintro
  isplitl [Hs]; · iexact Hs
  isplitl [Hw]; · iexact Hw
  isplitl [Hv]; · iexact Hv
  iexists _; iexact HO

/-! ## A tile -/

theorem slot_set (s : Fin 4) : (slotM s).view.set = wtM.view.setOn (slotRect s).toLoadRect.set := by
  show ((wtM.view.slice (slotRect s)).reshape _ _).set = _
  rw [View.set_reshape, View.set_slice]; rfl

theorem slot_read (s : Fin 4) (o : Fin 16) (f : (cc0_scratch1 : Ref sig .tc).ty.Contents (Elt F)) (hf : (slotM s).view.read (Elt F) f = wX m ρ c o) :
    wtM.view.readAt (Elt F) (slotRect s).toLoadRect f = wV m ρ c o := by
  funext i
  unfold wV
  rw [← hf]
  show _ = (wtM.view.slice (slotRect s)).read (Elt F) f (Shape.reshapeEquiv _ ((Shape.reshapeEquiv _).symm i))
  rw [Equiv.apply_symm_apply]; rfl

theorem hz2 : (![0, 0] : Fin 2 → Nat) = fun _ => 0 := funext fun a => by fin_cases a <;> rfl

theorem x8_read (f : (cc0_scratch0 : Ref sig .tc).ty.Contents (Elt F)) : x8M.view.readAt (Elt F) x8Rect.toLoadRect f = f :=
  Memref.readAt_unit_zero (Elt F) cc0_scratch0 hz2 _ f

/-- A load from a slot that holds W's columns. -/
theorem wp_readSlot {α : Type} (s : Fin 4) (o : Fin 16) (k : Vec F S1x4096x128 .f32 → P F α) (Q : α → sProp 𝕄) :
    slotHas m ρ c s o ⊢ iprop((slotHas m ρ c s o -∗ WP c (k (wV m ρ c o)) Q) -∗ WP c (readSlot s >>= k) Q) := by
  unfold slotHas owns readSlot
  simp only [Prog.lift, Prog.bind_op, Prog.bind_ret]
  iintro ⟨%f, %hf, Hs⟩ Hk
  iapply (wp_load 𝒱₀ (c : Thread nD τ) none Set.univ (m := wtM) (S := (slotM s).view.set) (slot_set s).symm.subset) $$ Hs
  iintro Hs
  rw [slot_read m ρ c s o f hf]
  iapply Hk
  iexists f
  isplitr; · ipureintro; exact hf
  iexact Hs

/-- A load of the cast rows. -/
theorem wp_readX8 {α : Type} (k : Vec F S256x4096 .fp8e4m3 → P F α) (Q : α → sProp 𝕄) :
    x8Pts m ρ c ⊢ iprop((x8Pts m ρ c -∗ WP c (k (k0_pay3 (xstg m ρ c))) Q) -∗ WP c (readX8 >>= k) Q) := by
  unfold x8Pts readX8
  simp only [Prog.lift, Prog.bind_op, Prog.bind_ret]
  iintro Hs Hk
  iapply (wp_load 𝒱₀ (c : Thread nD τ) none Set.univ (m := x8M) (Finset.subset_univ _)) $$ Hs
  iintro Hs
  rw [x8_read]
  iapply Hk
  iexact Hs

theorem slotHas_any (s : Fin 4) (o : Fin 16) : slotHas m ρ c s o ⊢ slotAny c s := by
  unfold slotHas slotAny owns
  iintro ⟨%f, -, H⟩; iexists f; iexact H

/-- The block sent to a peer, landed: the peer's rows hold this device's block for it. -/
theorem landed (i : Fin 15) (fs : Buf (Elt F) ((y8C (off i)).view.loc (c : Thread nD τ))) (hfs : (y8C (off i)).view.read (Elt F) fs = blk m ρ c (off i))
    (fd : Buf (Elt F) ((ybR c).view.loc (fwd c i : Thread nD τ))) :
    ((ybR c).view.loc (fwd c i : Thread nD τ) ↦[(ybR c).view.set]{fullShare}
        (ybR c).view.write (Elt F) fd ((y8C (off i)).view.read (Elt F) fs) Finset.univ : sProp 𝕄)
      ⊢ (rd (F := F) m ρ).payload (recvCell (fwd c i) i) 0 0 := by
  rw [payload_recv, bwd_fwd]
  unfold rowHas
  refine Entails.of_eq (pointsTo_of_read (c := (fwd c i : Thread nD τ)) (ybR c).view _ _ ?_)
  rw [View.read_write_univ, hfs, yb_read, relOff_fwd]

/-- The columns sent come back. -/
theorem sentBack (i : Fin 15) (fs : Buf (Elt F) ((y8C (off i)).view.loc (c : Thread nD τ))) :
    ((y8C (off i)).view.loc (c : Thread nD τ) ↦[(y8C (off i)).view.set]{fullShare} fs : sProp 𝕄)
      ⊢ (rd (F := F) m ρ).payload (sendCell c i) 0 0 := by
  rw [payload_send]; unfold y8Any
  iintro H; iexists fs; iexact H

/-- `Rounds.wp_send_pointsTo` at the exchange's cells, the transfer addressed to `n = fwd c i` (substituted, not rewritten). -/
theorem wp_send_step (i : Fin 15) (n : Dev nD) (hn : n = fwd c i) {hsc : (ybR c : Memref sig (Dev.tc n : Thread nD τ).2.kind .vmem S256x128 .i8).view.ref.isScScratch = false}
    {hsrc : (y8C (off i)).view.WordExact} {hdst : (ybR c).view.WordExact}
    {hsem : DmaTarget.Typed .vmem (.dma (recvSem i)) (.remote (Dev.tc n : Thread nD τ) (ybR c : Memref sig .tc .vmem S256x128 .i8) (.dma (sendSem i)) hsc)}
    {α : Type} {Q : α → sProp 𝕄} {k : PUnit → P F α}
    (fs : Buf (Elt F) ((y8C (off i)).view.loc (c : Thread nD τ))) (hfs : (y8C (off i)).view.read (Elt F) fs = blk m ρ c (off i)) (W : Waits sig Unit) :
    iprop(records m ρ K
        ∗ ((y8C (off i)).view.loc (c : Thread nD τ) ↦[(y8C (off i)).view.set]{fullShare} fs)
        ∗ rowAny (fwd c i) c ∗ owes (c : Thread nD τ) (Orecv c i.val) W
        ∗ dutyTok ER (sendCell c i) 0 0 ∗ dutyTok ER (recvCell (fwd c i) i) 0 0)
      ⊢ iprop(((cred (tallyAt (sendCell c i) () N) ∗ owes (c : Thread nD τ) (Orecv c (i.val + 1)) W) -∗ WP c (k ⟨⟩) Q)
          -∗ WP c (.op (.enqueueDma (y8C (off i)) (.remote (Dev.tc n : Thread nD τ) (ybR c) (.dma (sendSem i)) hsc) (.dma (recvSem i)) hsrc hdst hsem) k) Q) := by
  subst hn
  unfold rowAny
  iintro ⟨#HR, Hs, ⟨%fd, Hd⟩, HO, Ht1, Ht2⟩
  iapply (Rounds.wp_send_pointsTo 𝒱₀ ER (rd m ρ) (c : Thread nD τ) none (κ₁ := K (kS c i)) (κ₂ := K (kR (fwd c i) i))
    (r₁ := 0) (r₂ := 0) (d₁ := 0) (d₂ := 0) (fd := fd)
    (by rw [duties_send]; exact Finset.mem_singleton_self _) (by rw [duties_recv]; exact Finset.mem_singleton_self _)
    () () N rfl (amount_send m ρ c i 0) (amount_recv m ρ (fwd c i) i 0) (Orecv c (i.val + 1)) (Orecv_step c i) (W := W)
    (sentBack m ρ c i fs) (landed m ρ c i fs hfs fd))
  isplitr; · iapply (inv_at m ρ K (kS c i)); iexact HR
  isplitr; · iapply (inv_at m ρ K (kR (fwd c i) i)); iexact HR
  isplitl [Hs]; · iexact Hs
  isplitl [Hd]; · iexact Hd
  isplitl [HO]; · iexact HO
  isplitl [Ht1]; · iexact Ht1
  isplitr; · iapply (reached_at m ρ K (kS c i)); iexact HR
  isplitl [Ht2]; · iexact Ht2
  iapply (reached_at m ρ K (kR (fwd c i) i)); iexact HR

/-- What a transfer takes: the peer's rows and the two duties it pays. -/
def xferRes (i : Fin 15) : sProp 𝕄 :=
  iprop(rowAny (fwd c i) c ∗ dutyTok ER (sendCell c i) 0 0 ∗ dutyTok ER (recvCell (fwd c i) i) 0 0)

/-- A tile for a peer: its block computed from W's columns, stored, sent. -/
theorem wp_tile (i : Fin 15) (s : Fin 4) :
    iprop(records m ρ K ∗ levAts L lv ∗ flight m ρ c s (off i) ∗ x8Pts m ρ c ∗ y8Any c (off i) ∗ xferRes c i ∗ owe c (Orecv c i.val))
      ⊢ WP c (tileP c (scale m ρ c) i s) fun _ =>
        iprop(slotFree c s ∗ wPts m ρ c (off i) ∗ x8Pts m ρ c ∗ cred (tallyAt (sendCell c i) () N) ∗ owe (F := F) c (Orecv c (i.val + 1))) := by
  unfold tileP xferRes
  iintro ⟨#HR, #Hlev, Hf, Hx8, Hy8, ⟨Hrow, Ht1, Ht2⟩, HO⟩
  unfold WP
  rw [wp_bind]
  ihave Hl := (wp_loaded m ρ c (off i) s i.val) $$ [Hf HO]
  · isplitr; · iexact Hlev
    isplitl [Hf] <;> iassumption
  iapply (wp_wand _ _ _) $$ Hl
  iintro %_ ⟨Hs, Hw, Hv, HO⟩
  iapply (wp_readX8 m ρ c) $$ Hx8; iintro Hx8
  iapply (wp_readSlot m ρ c s (off i)) $$ Hs; iintro Hs
  unfold y8Any owe
  icases Hy8 with ⟨%g, Hy8⟩
  icases HO with ⟨%W, HO⟩
  simp only [Prog.lift, Prog.bind_op, Prog.bind_ret]
  iapply (wp_load 𝒱₀ (c : Thread nD τ) none Set.univ (m := y8M) (S := (y8C (off i)).view.set)
    (by show _ ⊆ ((y8M.view.slice (y8Rect (off i)))).set; rw [View.set_slice]; exact Finset.Subset.refl _)) $$ Hy8
  iintro Hy8
  iapply (wp_store 𝒱₀ (c : Thread nD τ) none Set.univ (m := y8M) (r := y8Rect (off i)) (Mk := Finset.univ) (S := (y8C (off i)).view.set) (Finset.Subset.refl _)) $$ Hy8
  iintro Hy8
  iapply (wp_send_step m ρ K c i _ (peer_eq c i) _ (View.read_write_univ ..) W) $$ [Hy8 Hrow HO Ht1 Ht2]
  · isplitr; · iexact HR
    isplitl [Hy8]; · iexact Hy8
    isplitl [Hrow]; · iexact Hrow
    isplitl [HO]; · iexact HO
    isplitl [Ht1] <;> iassumption
  iintro ⟨Hc, HO⟩
  unfold WP
  rw [wp_ret]; imodintro
  unfold slotFree
  isplitl [Hs Hv]
  · isplitl [Hs]; · iapply (slotHas_any m ρ c s (off i)); iexact Hs
    iexact Hv
  isplitl [Hw]; · iexact Hw
  isplitl [Hx8]; · iexact Hx8
  isplitl [Hc]; · iexact Hc
  iexists W; iexact HO

end Cert.RunProof

end
-- ==== Proof.Parts.lean ====
/-
The rest of the body's operations, and the buffers cut into the pieces the body moves and joined again.
-/
module

public import proofs.«01_k».proof.Proof.Steps

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## Pieces of the buffers -/

/-- Device `c`'s buffer `b`, whole. -/
abbrev whole (b : Ref sig .tc) (f : Buf (Elt F) ((c : Thread nD τ).loc b)) : sProp 𝕄 := ((c : Thread nD τ).loc b) ↦{fullShare} f

omit [FloatOps F] in
theorem four (Φ : Fin 4 → sProp 𝕄) : bigSep Finset.univ Φ = iprop(Φ 0 ∗ Φ 1 ∗ Φ 2 ∗ Φ 3) := by
  have e0 := ge_split (0 : Fin 4) Φ; have e1 := ge_split (1 : Fin 4) Φ; have e2 := ge_split (2 : Fin 4) Φ; have e3 := ge_split (3 : Fin 4) Φ
  have e4 : bigSep (ge 4 4) Φ = (BI.emp : sProp 𝕄) := by rw [ge_top]; exact bigSep_empty
  rw [← ge_zero 4]
  refine e0.trans (congrArg _ (e1.trans (congrArg _ (e2.trans (congrArg _ (e3.trans ?_))))))
  show iprop(Φ 3 ∗ bigSep (ge 4 4) Φ) = _
  rw [e4]; exact equiv_iff.mp BI.sep_emp

/-- W's columns, tile by tile: tile `t` multiplies the 128 columns at `128 ((c + t + 1) mod 16)`. -/
def colOf (c : Dev nD) : Fin 16 ≃ Fin 16 where
  toFun t := ⟨(c.val + (t.val + 1)) % 16, Nat.mod_lt _ (by decide)⟩
  invFun j := ⟨(j.val + 31 - c.val) % 16, Nat.mod_lt _ (by decide)⟩
  left_inv := by revert c; decide +kernel
  right_inv := by revert c; decide +kernel

theorem inb_col (j : Fin 16) : ∀ a, (![0, 128 * j.val] : Fin 2 → ℕ) a + S4096x128.size a ≤ S4096x2048.size a := by revert j; decide +kernel
abbrev colRect (j : Fin 16) : Rect S4096x2048 := Rect.unit (s := S4096x2048) ![0, 128 * j.val] S4096x128.size (inb_col j)

theorem unit_set_congr {s : Idealize.ShloMosaic.Shape} {o o' : Fin s.rank → ℕ} (z : Fin s.rank → ℕ) (h : o = o') (hi hi') :
    (Rect.unit (s := s) o z hi).set = (Rect.unit (s := s) o' z hi').set := by subst h; rfl

theorem wCol_set (t : Fin 16) : (wCol c (offT t.val)).view.set = (colRect (colOf c t)).set := by
  have h1 : (wCol c (offT t.val)).view.set = (wRect c (offT t.val)).set := View.set_slice_whole _ _
  rw [h1]
  refine unit_set_congr _ ?_ _ _
  rw [k0_off1_eq]
  show (![0, 128 * ((c.val + (t.val + 1) % 16) % 16)] : Fin 2 → ℕ) = ![0, 128 * ((c.val + (t.val + 1)) % 16)]
  rw [Nat.add_mod_mod]

theorem w_split : whole c main_arg1 (wc m ρ c) = bigSep Finset.univ fun t : Fin 16 => wPts m ρ c (offT t.val) := by
  have h := pointsTo_blocks (Ix := Unit) (Name := ℕ) (U := UU) (Lvl := ℕ) (Val := Elt F) (ℓ := (c : Thread nD τ).loc main_arg1) (q := fullShare) (fun j : Fin 16 => (colRect j).set)
    (lead_disjoint (s := S4096x2048) 1 128 _ _ inb_col (fun _ => rfl) rfl)
    (lead_cover (s := S4096x2048) 1 128 _ _ inb_col (fun _ => rfl) (by decide) rfl (by decide) rfl) (wc m ρ c)
  refine h.trans ?_
  rw [bigSep_univ_equiv (colOf c)]
  refine bigSep_congr fun t _ => ?_
  unfold wPts
  rw [wCol_set]

theorem slotM_set (s : Fin 4) : (slotM s).view.set = (slotRect s).set := by
  show ((wtM.view.slice (slotRect s)).reshape _ _).set = _
  rw [View.set_reshape]; exact View.set_slice_whole _ _

theorem slots_disjoint (b b' : Fin 4) (h : b ≠ b') : Disjoint (slotM b).view.set (slotM b').view.set := by
  rw [slotM_set, slotM_set]
  exact lead_disjoint (s := S4x4096x128) 0 1 _ _ inb_slot (fun b => (Nat.one_mul _).symm) rfl b b' h
theorem slots_cover : Finset.biUnion (β := S4x4096x128.Idx) Finset.univ (fun s : Fin 4 => (slotM s).view.set) = Finset.univ := by
  refine (Finset.biUnion_congr rfl fun s _ => slotM_set s).trans ?_
  exact lead_cover (s := S4x4096x128) 0 1 (fun b : Fin 4 => ![b.val, 0, 0]) _ inb_slot (fun b => (Nat.one_mul _).symm) (by decide) rfl (by decide) rfl

theorem slots_split (f : Buf (Elt F) ((c : Thread nD τ).loc cc0_scratch1)) : whole c cc0_scratch1 f ⊢ bigSep Finset.univ fun s => slotAny c s := by
  refine (Entails.of_eq (pointsTo_blocks (ℓ := (c : Thread nD τ).loc cc0_scratch1) (fun s : Fin 4 => (slotM s).view.set) slots_disjoint slots_cover f)).trans (bigSep_mono fun s _ => ?_)
  show (_ : sProp 𝕄) ⊢ slotAny c s
  unfold slotAny; iintro H; iexists f; iexact H
theorem slots_join (f : Buf (Elt F) ((c : Thread nD τ).loc cc0_scratch1)) : (bigSep Finset.univ fun s => slotAny c s) ⊢ iprop(∃ g, whole (F := F) c cc0_scratch1 g) :=
  pointsTo_blocks_join_exists (ℓ := (c : Thread nD τ).loc cc0_scratch1) (fun s : Fin 4 => (slotM s).view.set) slots_disjoint slots_cover f

theorem y8C_set (o : Fin 16) : (y8C o).view.set = (y8Rect o).set := View.set_slice_whole _ _
theorem y8_disjoint (b b' : Fin 16) (h : b ≠ b') : Disjoint (y8C b).view.set (y8C b').view.set := by
  rw [y8C_set, y8C_set]
  exact lead_disjoint (s := S256x2048) 1 128 _ _ inb_y8 (fun _ => rfl) rfl b b' h
theorem y8_cover : Finset.biUnion (β := S256x2048.Idx) Finset.univ (fun s : Fin 16 => (y8C s).view.set) = Finset.univ := by
  refine (Finset.biUnion_congr rfl fun s _ => y8C_set s).trans ?_
  exact lead_cover (s := S256x2048) 1 128 (fun b : Fin 16 => ![0, 128 * b.val]) _ inb_y8 (fun _ => rfl) (by decide) rfl (by decide) rfl

theorem off_inj : Function.Injective off := by decide +kernel
theorem erase_off : (Finset.univ.erase (0 : Fin 16)) = Finset.univ.map ⟨off, off_inj⟩ := by decide +kernel
theorem chunks (Φ : Fin 16 → sProp 𝕄) : bigSep Finset.univ Φ = iprop(Φ 0 ∗ bigSep Finset.univ fun i : Fin 15 => Φ (off i)) := by
  rw [BI.bigSep_erase (Finset.mem_univ (0 : Fin 16)), erase_off, bigSep_map]; rfl

theorem y8_split (f : Buf (Elt F) ((c : Thread nD τ).loc cc0_scratch2)) :
    whole c cc0_scratch2 f ⊢ iprop(y8Any c 0 ∗ bigSep Finset.univ fun i : Fin 15 => y8Any c (off i)) := by
  rw [← chunks]
  refine (Entails.of_eq (pointsTo_blocks (ℓ := (c : Thread nD τ).loc cc0_scratch2) (fun s : Fin 16 => (y8C s).view.set) y8_disjoint y8_cover f)).trans (bigSep_mono fun s _ => ?_)
  show (_ : sProp 𝕄) ⊢ y8Any c s
  unfold y8Any; iintro H; iexists f; iexact H
theorem y8_join (f : Buf (Elt F) ((c : Thread nD τ).loc cc0_scratch2)) :
    iprop(y8Any c 0 ∗ bigSep Finset.univ fun i : Fin 15 => y8Any c (off i)) ⊢ iprop(∃ g, whole (F := F) c cc0_scratch2 g) := by
  rw [← chunks]
  exact pointsTo_blocks_join_exists (ℓ := (c : Thread nD τ).loc cc0_scratch2) (fun s : Fin 16 => (y8C s).view.set) y8_disjoint y8_cover f

theorem ybR_set (d : Dev nD) : (ybR d).view.set = (ybRect d).set := View.set_slice_whole _ _
theorem rows_disjoint (b b' : Dev nD) (h : b ≠ b') : Disjoint (ybR b).view.set (ybR b').view.set := by
  rw [ybR_set, ybR_set]
  exact lead_disjoint (s := S4096x128) 0 256 (fun b : Fin 16 => k0_off2 b) _ k0_off2_inb (fun b => by rw [k0_off2_eq]; rfl) rfl b b' h
theorem rows_cover : Finset.biUnion (β := S4096x128.Idx) Finset.univ (fun s : Dev nD => (ybR s).view.set) = Finset.univ := by
  refine (Finset.biUnion_congr rfl fun s _ => ybR_set s).trans ?_
  exact lead_cover (s := S4096x128) 0 256 (fun b : Fin 16 => k0_off2 b) _ k0_off2_inb (fun b => by rw [k0_off2_eq]; rfl)
    (fun b a h => by rw [k0_off2_eq]; fin_cases a; exacts [absurd rfl h, rfl]) rfl (by decide) rfl

theorem rows_split (f : Buf (Elt F) ((c : Thread nD τ).loc cc0_scratch3)) :
    whole c cc0_scratch3 f ⊢ iprop(rowAny c c ∗ bigSep Finset.univ fun i : Fin 15 => rowAny c (fwd c i)) := by
  rw [← devs_fwd]
  refine (Entails.of_eq (pointsTo_blocks (ℓ := (c : Thread nD τ).loc cc0_scratch3) (fun s : Dev nD => (ybR s).view.set) rows_disjoint rows_cover f)).trans (bigSep_mono fun s _ => ?_)
  show (_ : sProp 𝕄) ⊢ rowAny c s
  unfold rowAny; iintro H; iexists f; iexact H
theorem rows_join :
    iprop(rowHas m ρ c c ∗ bigSep Finset.univ fun i : Fin 15 => rowHas m ρ c (bwd c i)) ⊢ whole c cc0_scratch3 (yb m ρ c) := by
  rw [← devs_bwd]
  exact Entails.of_eq (pointsTo_blocks (ℓ := (c : Thread nD τ).loc cc0_scratch3) (fun s : Dev nD => (ybR s).view.set) rows_disjoint rows_cover (yb m ρ c)).symm

/-! ## The scales -/

theorem wp_scale :
    iprop(whole c cc0_stg1_0 (sxstg m ρ c) ∗ whole c cc0_stg2_0 (swstg m ρ c))
      ⊢ WP c scaleP fun v => iprop(⌜v = scale m ρ c⌝ ∗ whole c cc0_stg1_0 (sxstg m ρ c) ∗ whole c cc0_stg2_0 (swstg m ρ c)) := by
  iintro ⟨H1, H2⟩
  have e : (scaleP : P F (F .f32)) = smemLoadElt sxM (Rect.unit (s := S1) ![0] S1.size inb_S1_S1_0) (View.loads_smem_one rfl numel1_S1) (Shape.Idx.first (numel1_S1.symm ▸ Nat.one_pos)) fun v3 =>
      smemLoadElt swM (Rect.unit (s := S1) ![0] S1.size inb_S1_S1_0) (View.loads_smem_one rfl numel1_S1) (Shape.Idx.first (numel1_S1.symm ▸ Nat.one_pos)) fun v4 => Prog.ret (k0_pay2 v3 v4) := rfl
  rw [e]
  iapply (wp_smemLoadElt 𝒱₀ (c : Thread nD τ) none Set.univ (m := sxM) (r := Rect.unit (s := S1) ![0] S1.size inb_S1_S1_0) (S := Finset.univ) (q := fullShare) (f := sxstg m ρ c) (Finset.subset_univ _)) $$ H1
  iintro H1
  iapply (wp_smemLoadElt 𝒱₀ (c : Thread nD τ) none Set.univ (m := swM) (r := Rect.unit (s := S1) ![0] S1.size inb_S1_S1_0) (S := Finset.univ) (q := fullShare) (f := swstg m ρ c) (Finset.subset_univ _)) $$ H2
  iintro H2
  rw [wp_ret]; imodintro
  isplitr; · ipureintro; rfl
  isplitl [H1] <;> iassumption

/-! ## The cast -/

theorem wp_cast :
    iprop(whole c cc0_stg0_0 (xstg m ρ c) ∗ ∃ f, whole c cc0_scratch0 f) ⊢ WP c castP fun _ => iprop(whole c cc0_stg0_0 (xstg m ρ c) ∗ x8Pts m ρ c) := by
  unfold castP readX8
  simp only [Prog.lift, Prog.bind_op, Prog.bind_ret]
  iintro ⟨Hx, %f, H8⟩
  iapply (wp_load 𝒱₀ (c : Thread nD τ) none Set.univ (m := xM) (Finset.subset_univ _)) $$ Hx
  iintro Hx
  iapply (wp_load 𝒱₀ (c : Thread nD τ) none Set.univ (m := x8M) (Finset.subset_univ _)) $$ H8
  iintro H8
  iapply (wp_store 𝒱₀ (c : Thread nD τ) none Set.univ (m := x8M) (r := x8Rect) (Mk := Finset.univ) (Finset.subset_univ _)) $$ H8
  iintro H8
  rw [show xM.view.readAt (Elt F) x8Rect.toLoadRect (xstg m ρ c) = xstg m ρ c from Memref.readAt_unit_zero (Elt F) cc0_stg0_0 hz2 _ _]
  rw [show ((x8M.access x8Rect : View sig .tc _ _ _).write (Elt F) f (k0_pay3 (xstg m ρ c)) Finset.univ) = k0_pay3 (xstg m ρ c)
    from Memref.write_access_unit_zero_univ (Elt F) cc0_scratch0 hz2 _ f _]
  rw [wp_ret]; imodintro
  isplitl [Hx]; · iexact Hx
  unfold x8Pts; iexact H8

/-! ## The own tile -/

theorem own_rect : (Rect.unit (s := S4096x128) (k0_off3 c) S256x128.size (k0_off3_inb c)).set = (ybRect c).set :=
  unit_set_congr _ ((k0_off3_eq c).trans (k0_off2_eq c).symm) _ _

theorem wp_own :
    iprop(levAts L lv ∗ flight m ρ c 3 0 ∗ x8Pts m ρ c ∗ rowAny c c ∗ owe c (Orecv c 15))
      ⊢ WP c (ownP c (scale m ρ c)) fun _ =>
        iprop(slotFree c 3 ∗ wPts m ρ c 0 ∗ x8Pts m ρ c ∗ rowHas m ρ c c ∗ owe (F := F) c (Orecv c 15)) := by
  have hoff : k0_off3 c = k0_off2 c := (k0_off3_eq c).trans (k0_off2_eq c).symm
  unfold ownP
  iintro ⟨#Hlev, Hf, Hx8, Hrow, HO⟩
  unfold WP
  rw [wp_bind]
  ihave Hl := (wp_loaded m ρ c 0 3 15) $$ [Hf HO]
  · isplitr; · iexact Hlev
    isplitl [Hf] <;> iassumption
  iapply (wp_wand _ _ _) $$ Hl
  iintro %_ ⟨Hs, Hw, Hv, HO⟩
  iapply (wp_readX8 m ρ c) $$ Hx8; iintro Hx8
  iapply (wp_readSlot m ρ c 3 0) $$ Hs; iintro Hs
  unfold rowAny
  icases Hrow with ⟨%g, Hrow⟩
  simp only [Prog.lift, Prog.bind_op, Prog.bind_ret]
  iapply (wp_load 𝒱₀ (c : Thread nD τ) none Set.univ (m := ybM) (S := (ybR c).view.set)
    (Eq.subset ((View.set_slice (v := ybM.view) _).symm.trans ((View.set_slice_whole cc0_scratch3 (Rect.unit (s := S4096x128) (k0_off3 c) S256x128.size (k0_off3_inb c))).trans ((own_rect c).trans (ybR_set c).symm))))) $$ Hrow
  iintro Hrow
  iapply (wp_store 𝒱₀ (c : Thread nD τ) none Set.univ (m := ybM) (r := Rect.unit (s := S4096x128) (k0_off3 c) S256x128.size (k0_off3_inb c)) (Mk := Finset.univ) (S := (ybR c).view.set)
    (by show (ybM.view.slice (Rect.unit (s := S4096x128) (k0_off3 c) S256x128.size (k0_off3_inb c))).set ⊆ _
        rw [View.set_slice_whole, own_rect, ybR_set])) $$ Hrow
  iintro Hrow
  rw [wp_ret]; imodintro
  unfold slotFree
  isplitl [Hs Hv]
  · isplitl [Hs]; · iapply (slotHas_any m ρ c 3 0); iexact Hs
    iexact Hv
  isplitl [Hw]; · iexact Hw
  isplitl [Hx8]; · iexact Hx8
  isplitl [Hrow]
  · iapply (show _ ⊢ rowHas m ρ c c from ?_) $$ Hrow
    unfold rowHas
    refine Entails.of_eq (pointsTo_of_read (c := (c : Thread nD τ)) (ybR c).view _ _ ?_)
    rw [yb_read, relOff_self]
    have key : ∀ (o : Fin 2 → ℕ) (ho : o = k0_off2 c) (hi : ∀ a, o a + S256x128.size a ≤ S4096x128.size a) (b : Vec F S256x128 .i8),
        (ybR c).view.read (Elt F) ((ybM.access (Rect.unit (s := S4096x128) o S256x128.size hi) : View sig .tc _ _ _).write (Elt F) g b Finset.univ) = b := by
      intro o ho hi b; subst ho; exact View.read_write_univ ..
    exact key _ hoff _ _
  iexact HO

/-! ## The pairs of waits -/

/-- What a pair of waits takes, and what it leaves: both cells closed, the columns sent and the rows received back. -/
def drainPre (i : Fin 15) : sProp 𝕄 :=
  iprop(cred (tallyAt (sendCell c i) () N) ∗ cred (tallyAt (recvCell c i) () N) ∗ atPos ER (sendCell c i) 0 ∅ 0 ∗ atPos ER (recvCell c i) 0 ∅ 0)
def drainPost (i : Fin 15) : sProp 𝕄 :=
  iprop(y8Any c (off i) ∗ rowHas m ρ c (bwd c i) ∗ semVal (sendCell c i) 0 ∗ semVal (recvCell c i) 0)

theorem wp_drain (i : Fin 15) :
    iprop(records m ρ K ∗ drainPre c i ∗ owe c 0) ⊢ WP c (drainP c i) fun _ => iprop(drainPost m ρ c i ∗ owe (F := F) c 0) := by
  unfold drainP drainPre owe
  simp only [Prog.lift, Prog.bind_op, Prog.bind_ret]
  iintro ⟨#HR, ⟨Hc1, Hc2, Ha1, Ha2⟩, %W, HO⟩
  ihave #HI1 := (inv_at m ρ K (kS c i)) $$ HR
  ihave #HI2 := (inv_at m ρ K (kR c i)) $$ HR
  iapply (Rounds.wp_wait_rest_token 𝒱₀ ER (rd m ρ) (c : Thread nD τ) none (κ := K (kS c i))
      (wpE_waitDma2_eq 𝒱₀ (c : Thread nD τ) none Set.univ) (Set.mem_univ _) () (O := 0) (W := W) (R := 0) (m := 0) (T := ∅)
      (by rw [Nat.zero_add, expect_send])) $$ [Hc1 HO Ha1]
  · isplitr; · iexact HI1
    isplitl [Hc1]; · iexact Hc1
    isplitl [HO]; · iexact HO
    isplitr; · rw [MayWait_zero]; iempintro
    iexact Ha1
  iintro ⟨HO, Ha1, -, Hpay⟩
  ihave Hy := (Entails.of_eq (rest_send m ρ c i)) $$ Hpay
  iapply (Rounds.wp_wait_rest_token 𝒱₀ ER (rd m ρ) (c : Thread nD τ) none (κ := K (kR c i))
      (wpE_waitDma2_eq 𝒱₀ (c : Thread nD τ) none Set.univ) (Set.mem_univ _) () (O := 0) (W := insert (SemLoc.dma (sendSem i), ()) W) (R := 0) (m := 0) (T := ∅)
      (by rw [Nat.zero_add, expect_recv])) $$ [Hc2 HO Ha2]
  · isplitr; · iexact HI2
    isplitl [Hc2]; · iexact Hc2
    isplitl [HO]; · iexact HO
    isplitr; · rw [MayWait_zero]; iempintro
    iexact Ha2
  iintro ⟨HO, Ha2, -, Hpay⟩
  ihave Hr := (Entails.of_eq (rest_recv m ρ c i)) $$ Hpay
  imod (Rounds.cell_close ER (rd m ρ) (Set.mem_univ (K (kS c i))) (fun h => h) (R := 0 + 1) (duties_later m ρ (sendCell c i))) $$ [Ha1] with Hz1
  · isplitr; · iexact HI1
    iexact Ha1
  imod (Rounds.cell_close ER (rd m ρ) (Set.mem_univ (K (kR c i))) (fun h => h) (R := 0 + 1) (duties_later m ρ (recvCell c i))) $$ [Ha2] with Hz2
  · isplitr; · iexact HI2
    iexact Ha2
  rw [wp_ret]; imodintro
  unfold drainPost
  isplitr [HO]
  · isplitl [Hy]; · iexact Hy
    isplitl [Hr]; · iexact Hr
    isplitl [Hz1] <;> iassumption
  iexists _; iexact HO

/-! ## The last store -/

theorem wp_last :
    iprop(whole c cc0_scratch3 (yb m ρ c) ∗ ∃ f, whole c cc0_stg3_0 f)
      ⊢ WP c (lastP (scale m ρ c)) fun _ => iprop(whole c cc0_scratch3 (yb m ρ c) ∗ whole c cc0_stg3_0 (outAt m ρ c)) := by
  unfold lastP
  simp only [Prog.lift, Prog.bind_op, Prog.bind_ret]
  iintro ⟨Hy, %f, Ho⟩
  iapply (wp_load 𝒱₀ (c : Thread nD τ) none Set.univ (m := ybM) (Finset.subset_univ _)) $$ Hy
  iintro Hy
  iapply (wp_load 𝒱₀ (c : Thread nD τ) none Set.univ (m := oM) (Finset.subset_univ _)) $$ Ho
  iintro Ho
  iapply (wp_store 𝒱₀ (c : Thread nD τ) none Set.univ (m := oM) (r := outRect) (Mk := Finset.univ) (Finset.subset_univ _)) $$ Ho
  iintro Ho
  rw [show ybM.view.readAt (Elt F) outRect.toLoadRect (yb m ρ c) = yb m ρ c from Memref.readAt_unit_zero (Elt F) cc0_scratch3 hz2 _ _]
  rw [show ((oM.access outRect : View sig .tc _ _ _).write (Elt F) f (k0_pay1 (k0_pay26 (yb m ρ c)) (k0_pay27 (scale m ρ c))) Finset.univ) = outAt m ρ c
    from Memref.write_access_unit_zero_univ (Elt F) cc0_stg3_0 hz2 _ f _]
  rw [wp_ret]; imodintro
  isplitl [Hy] <;> iassumption

end Cert.RunProof

end
-- ==== Proof.Body.lean ====
/-
The body at a symbolic device: the operations' rules strung along its loops.
-/
module

public import proofs.«01_k».proof.Proof.Parts

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## The loops -/

/-- A loop over the fifteen peers, and over the first thirteen. -/
theorem wp_each15 (f : Fin 15 → P F PUnit) (J : ℕ → sProp 𝕄) (h : ∀ i : Fin 15, J i.val ⊢ WP c (f i) fun _ => J (i.val + 1)) :
    J 0 ⊢ WP c (each f [0, 1, 2, 3, 4, 5, 6, 7, 8, 9, 10, 11, 12, 13, 14]) fun _ => J 15 :=
  wp_each c f [0, 1, 2, 3, 4, 5, 6, 7, 8, 9, 10, 11, 12, 13, 14] J fun k hk => by
    have e : ∀ (k : ℕ) (hk : k < 15), ([0, 1, 2, 3, 4, 5, 6, 7, 8, 9, 10, 11, 12, 13, 14] : List (Fin 15))[k] = ⟨k, hk⟩ := by decide
    rw [e k hk]; exact h ⟨k, hk⟩
theorem wp_each13 (f : Fin 15 → P F PUnit) (J : ℕ → sProp 𝕄) (h : ∀ i : Fin 15, i.val < 13 → J i.val ⊢ WP c (f i) fun _ => J (i.val + 1)) :
    J 0 ⊢ WP c (each f [0, 1, 2, 3, 4, 5, 6, 7, 8, 9, 10, 11, 12]) fun _ => J 13 :=
  wp_each c f [0, 1, 2, 3, 4, 5, 6, 7, 8, 9, 10, 11, 12] J fun k hk => by
    have hk' : k < 13 := hk
    have e : ∀ (k : ℕ) (hk : k < 13), ([0, 1, 2, 3, 4, 5, 6, 7, 8, 9, 10, 11, 12] : List (Fin 15))[k] = ⟨k, Nat.lt_of_lt_of_le hk (by decide)⟩ := by
      clear hk hk'; decide
    rw [e k hk]; exact h ⟨k, by omega⟩ hk

/-- The signals. -/
def sigRes (i : Fin 15) : sProp 𝕄 := iprop(dutyTok ER (barCell (fwd c i)) 0 i.rev ∗ rowAny c (fwd c i))

theorem wp_signals :
    iprop(records m ρ K ∗ owe c (O₀ c) ∗ bigSep (ge 15 0) (sigRes c))
      ⊢ WP c (each (signalP c) [0, 1, 2, 3, 4, 5, 6, 7, 8, 9, 10, 11, 12, 13, 14]) fun _ => owe (F := F) c (Orecv c 0) := by
  refine (wp_each15 c (signalP c) (fun k => iprop(records m ρ K ∗ owe c (Orecv c 0 + Obar c k) ∗ bigSep (ge 15 k) (sigRes c))) fun i => ?_).trans
    (wp_mono _ _ _ fun _ => ?_)
  · rw [ge_split]
    unfold sigRes
    iintro ⟨#HR, HO, ⟨Ht, Hr⟩, Hrest⟩
    ihave Hw := (wp_signal_step m ρ K c i) $$ [HO Ht Hr]
    · isplitr; · iexact HR
      isplitl [HO]; · iexact HO
      isplitl [Ht] <;> iassumption
    iapply (wp_wand _ _ _) $$ Hw
    iintro %_ HO
    isplitr; · iexact HR
    isplitl [HO] <;> iassumption
  · rw [Obar_top, add_zero]
    iintro ⟨-, HO, -⟩; iexact HO

/-- The pairs of waits. -/
theorem wp_drains :
    iprop(records m ρ K ∗ owe c 0 ∗ bigSep (ge 15 0) (drainPre c))
      ⊢ WP c (each (drainP c) [0, 1, 2, 3, 4, 5, 6, 7, 8, 9, 10, 11, 12, 13, 14]) fun _ =>
        iprop(owe (F := F) c 0 ∗ bigSep Finset.univ (drainPost m ρ c)) := by
  have h0 : bigSep (lt 15 0) (drainPost m ρ c) = (BI.emp : sProp 𝕄) := by rw [lt_zero]; exact bigSep_empty
  refine BIBase.Entails.trans ?_ ((wp_each15 c (drainP c) (fun k => iprop(records m ρ K ∗ owe c 0 ∗ bigSep (ge 15 k) (drainPre c) ∗ bigSep (lt 15 k) (drainPost m ρ c))) fun i => ?_).trans
    (wp_mono _ _ _ fun _ => ?_))
  · rw [h0]
    iintro ⟨#HR, HO, H⟩
    isplitr; · iexact HR
    isplitl [HO]; · iexact HO
    isplitl [H]; · iexact H
    iempintro
  · rw [ge_split, lt_split]
    iintro ⟨#HR, HO, ⟨Hp, Hrest⟩, Hdone⟩
    ihave Hw := (wp_drain m ρ K c i) $$ [HO Hp]
    · isplitr; · iexact HR
      isplitl [Hp] <;> iassumption
    iapply (wp_wand _ _ _) $$ Hw
    iintro %_ ⟨Hd, HO⟩
    isplitr; · iexact HR
    isplitl [HO]; · iexact HO
    isplitl [Hrest]; · iexact Hrest
    isplitl [Hd] <;> iassumption
  · rw [lt_top']
    iintro ⟨-, HO, -, H⟩
    isplitl [HO] <;> iassumption

/-! ## The tiles -/

/-- What a tile for a peer takes besides its slot. -/
def tileRes (i : Fin 15) : sProp 𝕄 := iprop(y8Any c (off i) ∗ xferRes c i)

/-- What moves with the tiles: the columns of W given back and those not yet lent, the cast rows, the chunks and transfers to
    come, the send credits so far, the receive credits owed. -/
def tiles (k l : ℕ) : sProp 𝕄 :=
  iprop((bigSep (lt 16 k) fun t => wPts m ρ c (offT t.val)) ∗ (bigSep (ge 16 l) fun t => wPts m ρ c (offT t.val)) ∗ x8Pts m ρ c
    ∗ bigSep (ge 15 k) (tileRes c) ∗ (bigSep (lt 15 k) fun i => cred (tallyAt (sendCell c i) () N)) ∗ owe c (Orecv c k))

/-- A tile, its slot given back. -/
theorem wp_tile_step (i : Fin 15) (s : Fin 4) (l : ℕ) :
    iprop(records m ρ K ∗ levAts L lv ∗ flight m ρ c s (offT i.val) ∗ tiles m ρ c i.val l)
      ⊢ WP c (tileP c (scale m ρ c) i s) fun _ => iprop(slotFree c s ∗ tiles m ρ c (i.val + 1) l) := by
  unfold tiles
  have hw := lt_split (⟨i.val, by omega⟩ : Fin 16) (fun t => wPts m ρ c (offT t.val))
  rw [show bigSep (lt 16 (i.val + 1)) (fun t => wPts m ρ c (offT t.val)) = _ from hw, lt_split, ge_split]
  simp only [offT_val]
  iintro ⟨#HR, #Hlev, Hf, Hw, Hl, Hx8, ⟨Ht, Hrest⟩, Hc, HO⟩
  unfold tileRes
  icases Ht with ⟨Hy, Hx⟩
  ihave Hwp := (wp_tile m ρ K c i s) $$ [Hf Hx8 Hy Hx HO]
  · isplitr; · iexact HR
    isplitr; · iexact Hlev
    isplitl [Hf]; · iexact Hf
    isplitl [Hx8]; · iexact Hx8
    isplitl [Hy]; · iexact Hy
    isplitl [Hx] <;> iassumption
  iapply (wp_wand _ _ _) $$ Hwp
  iintro %_ ⟨Hs, Hwo, Hx8, Hci, HO⟩
  isplitl [Hs]; · iexact Hs
  isplitl [Hw Hwo]
  · isplitl [Hwo] <;> iassumption
  isplitl [Hl]; · iexact Hl
  isplitl [Hx8]; · iexact Hx8
  isplitl [Hrest]; · iexact Hrest
  isplitl [Hc Hci]
  · isplitl [Hci] <;> iassumption
  iexact HO

/-- The state between tiles: three copies in flight, one slot at rest. -/
def between (k : ℕ) : sProp 𝕄 :=
  iprop(records m ρ K ∗ levAts L lv ∗ flight m ρ c (slotOf k) (offT k) ∗ flight m ρ c (slotOf (k + 1)) (offT (k + 1))
    ∗ flight m ρ c (slotOf (k + 2)) (offT (k + 2)) ∗ slotFree c (slotOf (k + 3)) ∗ tiles m ρ c k (k + 3))

theorem slotOf_add (k : ℕ) : slotOf (k + 4) = slotOf k := Fin.ext (Nat.add_mod_right k 4)

theorem wp_step (i : Fin 15) (hi : i.val < 13) :
    between m ρ K c i.val ⊢ WP c (stepP c (scale m ρ c) i) fun _ => between m ρ K c (i.val + 1) := by
  unfold between stepP
  have hw := ge_split (⟨i.val + 3, by omega⟩ : Fin 16) (fun t => wPts m ρ c (offT t.val))
  iintro ⟨#HR, #Hlev, Hf0, Hf1, Hf2, Hs, Ht⟩
  unfold WP
  rw [wp_bind]
  unfold tiles
  icases Ht with ⟨Hd, Hl, Hrest⟩
  ihave Hl' := (Entails.of_eq hw) $$ Hl
  icases Hl' with ⟨Hw, Hl⟩
  ihave Hst := (wp_start m ρ c (offT (i.val + 3)) (slotOf (i.val + 3))) $$ [Hw Hs]
  · isplitl [Hw] <;> iassumption
  iapply (wp_wand _ _ _) $$ Hst
  iintro %_ Hf3
  ihave Htl := (wp_tile_step m ρ K c i (slotOf i.val) (i.val + 3 + 1)) $$ [Hf0 Hd Hl Hrest]
  · isplitr; · iexact HR
    isplitr; · iexact Hlev
    isplitl [Hf0]; · iexact Hf0
    unfold tiles
    isplitl [Hd]; · iexact Hd
    isplitl [Hl]; · iexact Hl
    iexact Hrest
  iapply (wp_wand _ _ _) $$ Htl
  iintro %_ ⟨Hs, Ht⟩
  isplitr; · iexact HR
  isplitr; · iexact Hlev
  isplitl [Hf1]; · iexact Hf1
  isplitl [Hf2]; · iexact Hf2
  isplitl [Hf3]; · iexact Hf3
  isplitl [Hs]; · rw [show i.val + 1 + 3 = i.val + 4 from rfl, slotOf_add]; iexact Hs
  unfold tiles
  iexact Ht

/-! ## The whole body -/

/-- The duties device `c` pays, its positions, its credits. -/
def duties (c : Dev nD) : sProp 𝕄 :=
  iprop((bigSep Finset.univ fun i : Fin 15 => dutyTok ER (barCell (fwd c i)) 0 i.rev)
    ∗ (bigSep Finset.univ fun i : Fin 15 => dutyTok ER (sendCell c i) 0 0) ∗ bigSep Finset.univ fun i : Fin 15 => dutyTok ER (recvCell (fwd c i) i) 0 0)
def positions (c : Dev nD) : sProp 𝕄 :=
  iprop(atPos ER (barCell c) 0 ∅ 0 ∗ (bigSep Finset.univ fun i : Fin 15 => atPos ER (sendCell c i) 0 ∅ 0)
    ∗ bigSep Finset.univ fun i : Fin 15 => atPos ER (recvCell c i) 0 ∅ 0)
def credits (c : Dev nD) : sProp 𝕄 :=
  iprop(cred (tallyAt (barCell c) () 15) ∗ bigSep Finset.univ fun i : Fin 15 => cred (tallyAt (recvCell c i) () N))
/-- The semaphores of the local copies, and of the transfers, at zero. -/
def loadSems (c : Dev nD) : sProp 𝕄 := bigSep Finset.univ fun s : Fin 4 => semVal (loadCell c s) 0
def xferSems (c : Dev nD) : sProp 𝕄 :=
  iprop((bigSep Finset.univ fun i : Fin 15 => semVal (sendCell c i) 0) ∗ bigSep Finset.univ fun i : Fin 15 => semVal (recvCell c i) 0)
/-- The inputs' buffers, held alike before and after. -/
def inputs (c : Dev nD) : sProp 𝕄 :=
  iprop(whole c cc0_stg0_0 (xstg m ρ c) ∗ whole c cc0_stg1_0 (sxstg m ρ c) ∗ whole c cc0_stg2_0 (swstg m ρ c) ∗ whole c main_arg1 (wc m ρ c))
/-- The scratch buffers at anything. -/
def scratch (c : Dev nD) : sProp 𝕄 :=
  iprop((∃ f, whole c cc0_scratch0 f) ∗ (∃ f, whole c cc0_scratch1 f) ∗ (∃ f, whole c cc0_scratch2 f) ∗ ∃ f, whole c cc0_scratch3 f)

/-- The copies started before the first tile. -/
theorem wp_starts :
    iprop((bigSep Finset.univ fun t : Fin 16 => wPts m ρ c (offT t.val)) ∗ slotFree c 0 ∗ slotFree c 1 ∗ slotFree c 2)
      ⊢ WP c (each (fun i : Fin 3 => startP c ⟨i.val + 1, by omega⟩ (slotOf i.val)) [0, 1, 2]) fun _ =>
        iprop(flight m ρ c 0 (offT 0) ∗ flight m ρ c 1 (offT 1) ∗ flight m ρ c 2 (offT 2) ∗ bigSep (ge 16 3) fun t => wPts m ρ c (offT t.val)) := by
  have e0 : bigSep (ge 16 0) (fun t : Fin 16 => wPts m ρ c (offT t.val)) = iprop(wPts m ρ c (offT 0) ∗ bigSep (ge 16 1) fun t => wPts m ρ c (offT t.val)) :=
    ge_split (0 : Fin 16) (fun t => wPts m ρ c (offT t.val))
  have e1 : bigSep (ge 16 1) (fun t : Fin 16 => wPts m ρ c (offT t.val)) = iprop(wPts m ρ c (offT 1) ∗ bigSep (ge 16 2) fun t => wPts m ρ c (offT t.val)) :=
    ge_split (1 : Fin 16) (fun t => wPts m ρ c (offT t.val))
  have e2 : bigSep (ge 16 2) (fun t : Fin 16 => wPts m ρ c (offT t.val)) = iprop(wPts m ρ c (offT 2) ∗ bigSep (ge 16 3) fun t => wPts m ρ c (offT t.val)) :=
    ge_split (2 : Fin 16) (fun t => wPts m ρ c (offT t.val))
  rw [← ge_zero]
  iintro ⟨H, Hs0, Hs1, Hs2⟩
  ihave H' := (Entails.of_eq e0) $$ H
  icases H' with ⟨Hw0, H⟩
  ihave H' := (Entails.of_eq e1) $$ H
  icases H' with ⟨Hw1, H⟩
  ihave H' := (Entails.of_eq e2) $$ H
  icases H' with ⟨Hw2, H⟩
  unfold each each each each
  unfold WP
  rw [wp_bind]
  ihave Hst := (wp_start m ρ c (offT 0) 0) $$ [Hw0 Hs0]
  · isplitl [Hw0] <;> iassumption
  iapply (wp_wand _ _ _) $$ Hst
  iintro %_ Hf0
  rw [wp_bind]
  ihave Hst := (wp_start m ρ c (offT 1) 1) $$ [Hw1 Hs1]
  · isplitl [Hw1] <;> iassumption
  iapply (wp_wand _ _ _) $$ Hst
  iintro %_ Hf1
  rw [wp_bind]
  ihave Hst := (wp_start m ρ c (offT 2) 2) $$ [Hw2 Hs2]
  · isplitl [Hw2] <;> iassumption
  iapply (wp_wand _ _ _) $$ Hst
  iintro %_ Hf2
  rw [show (pure PUnit.unit : P F PUnit) = Prog.ret PUnit.unit from rfl, wp_ret]; imodintro
  isplitl [Hf0]; · iexact Hf0
  isplitl [Hf1]; · iexact Hf1
  isplitl [Hf2] <;> iassumption

/-- From the launch's resources to the buffers and semaphores all given back, the result in its staging buffer. -/
theorem wp_main :
    iprop(records m ρ K ∗ levAts L lv ∗ duties c ∗ positions c ∗ credits c ∗ loadSems c ∗ inputs m ρ c ∗ scratch c ∗ (∃ f, whole c cc0_stg3_0 f) ∗ owe c (O₀ c))
      ⊢ WP c (mainP c) fun _ =>
        iprop(inputs m ρ c ∗ scratch c ∗ whole c cc0_stg3_0 (outAt m ρ c) ∗ semVal (barCell c) 0 ∗ loadSems c ∗ xferSems c ∗ owe (F := F) c 0) := by
  unfold inputs scratch duties positions credits loadSems xferSems mainP
  rw [w_split]
  iintro ⟨#HR, #Hlev, ⟨Htb, Hts, Htr⟩, ⟨Hab, Has, Har⟩, ⟨Hcb, Hcr⟩, HL, ⟨Hx, Hsx, Hsw, HW⟩, ⟨H8, ⟨%f1, H1⟩, ⟨%f2, H2⟩, ⟨%f3, H3⟩⟩, Ho, HO⟩
  unfold WP
  -- the scales
  rw [wp_bind]
  ihave Hwp := (wp_scale m ρ c) $$ [Hsx Hsw]
  · isplitl [Hsx] <;> iassumption
  iapply (wp_wand _ _ _) $$ Hwp
  iintro %v ⟨%hv, Hsx, Hsw⟩
  subst hv
  -- the landing buffer in rows; the signals
  ihave Hrows := (rows_split c f3) $$ H3
  icases Hrows with ⟨Hown, Hrows⟩
  rw [wp_bind]
  ihave Hwp := (wp_signals m ρ K c) $$ [HO Htb Hrows]
  · isplitr; · iexact HR
    isplitl [HO]; · iexact HO
    rw [ge_zero]
    unfold sigRes
    rw [bigSep_sep']
    isplitl [Htb] <;> iassumption
  iapply (wp_wand _ _ _) $$ Hwp
  iintro %_ HO
  rw [wp_bind]
  ihave Hwp := (wp_barrier m ρ K c) $$ [HO Hcb Hab]
  · isplitr; · iexact HR
    isplitr; · iexact Hlev
    isplitl [HO]; · iexact HO
    isplitl [Hcb] <;> iassumption
  iapply (wp_wand _ _ _) $$ Hwp
  iintro %_ ⟨HO, Hzb, Hrows⟩
  -- the slots; the first copies
  ihave Hslots := (slots_split c f1) $$ H1
  ihave Hfree := (show iprop((bigSep Finset.univ fun s => slotAny (F := F) c s) ∗ bigSep Finset.univ fun s : Fin 4 => semVal (loadCell c s) 0)
      ⊢ iprop(slotFree c 0 ∗ slotFree c 1 ∗ slotFree c 2 ∗ slotFree c 3) from by
    rw [← bigSep_sep']; exact Entails.of_eq (four (slotFree c))) $$ [Hslots HL]
  · isplitl [Hslots] <;> iassumption
  icases Hfree with ⟨Hs0, Hs1, Hs2, Hs3⟩
  rw [wp_bind]
  ihave Hwp := (wp_starts m ρ c) $$ [HW Hs0 Hs1 Hs2]
  · isplitl [HW]; · iexact HW
    isplitl [Hs0]; · iexact Hs0
    isplitl [Hs1] <;> iassumption
  iapply (wp_wand _ _ _) $$ Hwp
  iintro %_ ⟨Hf0, Hf1, Hf2, HW⟩
  -- the cast
  rw [wp_bind]
  ihave Hwp := (wp_cast m ρ c) $$ [Hx H8]
  · isplitl [Hx] <;> iassumption
  iapply (wp_wand _ _ _) $$ Hwp
  iintro %_ ⟨Hx, H8⟩
  -- the tiles for the peers
  ihave Hch := (y8_split c f2) $$ H2
  icases Hch with ⟨Hy0, Hch⟩
  have hl16 : bigSep (lt 16 0) (fun t : Fin 16 => wPts m ρ c (offT t.val)) = (BI.emp : sProp 𝕄) := by rw [lt_zero]; exact bigSep_empty
  have hl15 : bigSep (lt 15 0) (fun i : Fin 15 => (cred (tallyAt (sendCell c i) () N) : sProp 𝕄)) = (BI.emp : sProp 𝕄) := by rw [lt_zero]; exact bigSep_empty
  rw [wp_bind]
  ihave Hwp := (wp_each13 c (stepP c (scale m ρ c)) (between m ρ K c) (wp_step m ρ K c)) $$ [Hf0 Hf1 Hf2 Hs3 HW H8 Hch Hrows Hts Htr HO]
  · unfold between tiles
    isplitr; · iexact HR
    isplitr; · iexact Hlev
    isplitl [Hf0]; · iexact Hf0
    isplitl [Hf1]; · iexact Hf1
    isplitl [Hf2]; · iexact Hf2
    isplitl [Hs3]; · iexact Hs3
    isplitr; · rw [hl16]; iempintro
    isplitl [HW]; · iexact HW
    isplitl [H8]; · iexact H8
    isplitl [Hch Hrows Hts Htr]
    · rw [ge_zero]
      unfold tileRes xferRes
      rw [bigSep_sep', bigSep_sep', bigSep_sep']
      isplitl [Hch]; · iexact Hch
      isplitl [Hrows]; · iexact Hrows
      isplitl [Hts] <;> iassumption
    isplitr; · rw [hl15]; iempintro
    iexact HO
  iapply (wp_wand _ _ _) $$ Hwp
  iintro %_ Hb
  unfold between
  icases Hb with ⟨-, -, Hf13, Hf14, Hf15, Hs0, Ht⟩
  rw [wp_bind]
  ihave Hwp := (wp_tile_step m ρ K c 13 1 16) $$ [Hf13 Ht]
  · isplitr; · iexact HR
    isplitr; · iexact Hlev
    isplitl [Hf13]; · iexact Hf13
    iexact Ht
  iapply (wp_wand _ _ _) $$ Hwp
  iintro %_ ⟨Hs1, Ht⟩
  rw [wp_bind]
  ihave Hwp := (wp_tile_step m ρ K c 14 2 16) $$ [Hf14 Ht]
  · isplitr; · iexact HR
    isplitr; · iexact Hlev
    isplitl [Hf14]; · iexact Hf14
    iexact Ht
  iapply (wp_wand _ _ _) $$ Hwp
  iintro %_ ⟨Hs2, Ht⟩
  -- the own tile
  unfold tiles
  icases Ht with ⟨HW, -, H8, -, Hcs, HO⟩
  rw [wp_bind]
  ihave Hwp := (wp_own m ρ c) $$ [Hf15 H8 Hown HO]
  · isplitr; · iexact Hlev
    isplitl [Hf15]; · iexact Hf15
    isplitl [H8]; · iexact H8
    isplitl [Hown]; · iexact Hown
    iexact HO
  iapply (wp_wand _ _ _) $$ Hwp
  iintro %_ ⟨Hs3, Hw15, H8, Hown, HO⟩
  -- the pairs of waits
  rw [wp_bind]
  ihave Hwp := (wp_drains m ρ K c) $$ [HO Hcs Hcr Has Har]
  · isplitr; · iexact HR
    isplitl [HO]; · rw [Orecv_top]; iexact HO
    rw [ge_zero]
    unfold drainPre
    rw [bigSep_sep', bigSep_sep', bigSep_sep']
    isplitl [Hcs]; · rw [← lt_top' 15]; iexact Hcs
    isplitl [Hcr]; · iexact Hcr
    isplitl [Has] <;> iassumption
  iapply (wp_wand _ _ _) $$ Hwp
  iintro %_ ⟨HO, Hd⟩
  ihave Hd := (show bigSep Finset.univ (drainPost m ρ c) ⊢ iprop((bigSep Finset.univ fun i : Fin 15 => y8Any c (off i)) ∗ (bigSep Finset.univ fun i : Fin 15 => rowHas m ρ c (bwd c i))
      ∗ (bigSep Finset.univ fun i : Fin 15 => semVal (sendCell c i) 0) ∗ bigSep Finset.univ fun i : Fin 15 => semVal (recvCell c i) 0) from by
    unfold drainPost; rw [bigSep_sep', bigSep_sep', bigSep_sep']) $$ Hd
  icases Hd with ⟨Hch, Hrows, Hz1, Hz2⟩
  ihave H3 := (rows_join m ρ c) $$ [Hown Hrows]
  · isplitl [Hown] <;> iassumption
  -- the last store
  ihave Hwp := (wp_last m ρ c) $$ [H3 Ho]
  · isplitl [H3] <;> iassumption
  iapply (wp_wand _ _ _) $$ Hwp
  iintro %_ ⟨H3, Ho⟩
  ihave H2 := (y8_join c f2) $$ [Hy0 Hch]
  · isplitl [Hy0] <;> iassumption
  ihave Hfree := (show iprop(slotFree c 0 ∗ slotFree c 1 ∗ slotFree c 2 ∗ slotFree c 3)
      ⊢ iprop((bigSep Finset.univ fun s => slotAny (F := F) c s) ∗ bigSep Finset.univ fun s : Fin 4 => semVal (loadCell c s) 0) from by
    rw [← bigSep_sep']; exact Entails.of_eq (four (slotFree c)).symm) $$ [Hs0 Hs1 Hs2 Hs3]
  · isplitl [Hs0]; · iexact Hs0
    isplitl [Hs1]; · iexact Hs1
    isplitl [Hs2] <;> iassumption
  icases Hfree with ⟨Hslots, HL⟩
  ihave H1 := (slots_join c f1) $$ Hslots
  have hw15 := lt_split (⟨15, by decide⟩ : Fin 16) (fun t => wPts m ρ c (offT t.val))
  ihave HW := (Entails.of_eq hw15.symm) $$ [Hw15 HW]
  · isplitl [Hw15]; · iexact Hw15
    iexact HW
  isplitl [Hx Hsx Hsw HW]
  · isplitl [Hx]; · iexact Hx
    isplitl [Hsx]; · iexact Hsx
    isplitl [Hsw]; · iexact Hsw
    rw [← lt_top' 16]; iexact HW
  isplitl [H8 H1 H2 H3]
  · isplitl [H8]; · iexists _; unfold x8Pts; iexact H8
    isplitl [H1]; · iexact H1
    isplitl [H2]; · iexact H2
    iexists _; iexact H3
  isplitl [Ho]; · iexact Ho
  isplitl [Hzb]; · iexact Hzb
  isplitl [HL]; · iexact HL
  isplitl [Hz1 Hz2]
  · isplitl [Hz1] <;> iassumption
  iexact HO

end Cert.RunProof

end
-- ==== Proof.Launch.lean ====
/-
The launch: sixteen devices' cells allocated at once, the duties dealt around, the run of @main.
-/
module

public import proofs.«01_k».proof.Proof.Body
public import Idealize.ShloMosaic.Lib.Pipeline.CollectiveSegs

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What the global step leaves each device, -/
def G' (c : Dev nD) : sProp 𝕄 := iprop((∃ K, records m ρ K ∗ duties c ∗ positions c) ∗ loadSems c)
/-- and what its body starts from. -/
def start (c : Dev nD) : sProp 𝕄 := iprop(G' m ρ c ∗ credits c ∗ levAts L lv ∗ whole c main_arg1 (wc m ρ c))
def Φ₀ (c : Dev nD) : sProp 𝕄 := iprop(start m ρ c ∗ scratch c)
def Φ₁ (c : Dev nD) : sProp 𝕄 := iprop(whole c main_arg1 (wc m ρ c) ∗ scratch c ∗ semVal (barCell c) 0 ∗ loadSems c ∗ xferSems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_in (w : Fin 4) (hw : w.val < 3) : (cfg0.win w).fetch t0_0 = true := by revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (sxstg m ρ c)
    ∗ stg c cc0_stg2_0 (swstg m ρ c) ∗ stg c cc0_stg3_0 (outAt m ρ c))

theorem sound_body (c : Dev nD) : bodyPre m ρ c ⊢ WP c (Prog.op .deviceId fun d => mainP d) fun _ => bodyPost m ρ c := by
  unfold bodyPre Φ₀ start G'
  rw [show WP (F := F) c (Prog.op .deviceId fun d => mainP d) (fun _ => bodyPost m ρ c) = WP c (mainP c) (fun _ => bodyPost m ρ c) from by
    unfold WP; rw [wp_deviceId]]
  iintro ⟨⟨⟨⟨⟨%K, #HR, Hdu, Hpo⟩, HL⟩, Hcr, #Hlev, HW⟩, Hsc⟩, Ho, ⟨%d0, %g0, %hg0, Hx⟩, ⟨%d1, %g1, %hg1, Hsx⟩, ⟨%d2, %g2, %hg2, Hsw⟩, ⟨%d3, %g3, -, Hout⟩⟩
  have hx : g0 = xstg m ρ c := by rw [hg0]; unfold Dat.before; rw [if_pos (fetch_in 0 (by decide))]; rfl
  have hsx : g1 = sxstg m ρ c := by rw [hg1]; unfold Dat.before; rw [if_pos (fetch_in 1 (by decide))]; rfl
  have hsw : g2 = swstg m ρ c := by rw [hg2]; unfold Dat.before; rw [if_pos (fetch_in 2 (by decide))]; rfl
  subst hx hsx hsw
  unfold Dat.owesAt Pipeline.owesWithin
  icases Ho with ⟨%W, %hW, HO⟩
  rw [show (dats m ρ 0 c).owed t0_0.castSucc = O₀ c from rfl]
  ihave Hwp := (wp_main m ρ K c) $$ [Hdu Hpo HL Hcr HW Hsc HO Hx Hsx Hsw Hout]
  · unfold inputs owe
    isplitr; · iexact HR
    isplitr; · iexact Hlev
    isplitl [Hdu]; · iexact Hdu
    isplitl [Hpo]; · iexact Hpo
    isplitl [Hcr]; · iexact Hcr
    isplitl [HL]; · iexact HL
    isplitl [Hx Hsx Hsw HW]
    · isplitl [Hx]; · iexact Hx
      isplitl [Hsx]; · iexact Hsx
      isplitl [Hsw] <;> iassumption
    isplitl [Hsc]; · iexact Hsc
    isplitl [Hout]; · iexists g3; iexact Hout
    iexists W; iexact HO
  unfold WP
  iapply (wp_wand _ _ _) $$ Hwp
  unfold bodyPost Φ₁ inputs owe Dat.owesAt Pipeline.owesWithin
  rw [show (dats m ρ 0 c).owed t0_0.succ = 0 from rfl]
  iintro %_ ⟨⟨Hx, Hsx, Hsw, HW⟩, Hsc, Hout, Hb, HL, HX, ⟨%W', HO⟩⟩
  isplitl [HW Hsc Hb HL HX]
  · isplitl [HW]; · iexact HW
    isplitl [Hsc]; · iexact Hsc
    isplitl [Hb]; · iexact Hb
    isplitl [HL] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 20000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) sxM (Memref.isWhole_whole _) swM (Memref.isWhole_whole _) oM (Memref.isWhole_whole _)
      x8M (Memref.isWhole_whole _) wtM (Memref.isWhole_whole _) y8M (Memref.isWhole_whole _) ybM (Memref.isWhole_whole _) cc0_scratch4 cc0_scratch5 cc0_scratch6) (fun _ => bodyPost m ρ c)
  rw [cc0_body_eq]
  exact sound_body m ρ c

/-! ## The cells and the duties -/

/-- The kernel's own semaphores: the local copies', the sends', the receives'. -/
abbrev OS : Type := Fin 4 ⊕ Fin 15 ⊕ Fin 15
abbrev osem : OS → SemLoc sig
  | .inl s => .dma (loadSem s)
  | .inr (.inl i) => .dma (sendSem i)
  | .inr (.inr i) => .dma (recvSem i)

theorem share_eq (c : Dev nD) (w : Fin cfg0.W) : (dats m ρ 0 c).share w = fullShare := by unfold Dat.share; split <;> rfl

theorem dma_inj {q q' : DmaSem sig} (h : (SemLoc.dma q : SemLoc sig) = .dma q') : q = q' := by cases h; rfl

theorem ownSemFacts : Pipeline.OwnSemFacts cfg0.spec osem where
  isScoped := by
    rintro (s | i | i)
    · revert s; decide
    · revert i; decide
    · revert i; decide
  inj := by
    rintro (i | i | i) (j | j | j) h
    · exact congrArg _ (Fin.ext (by have := congrArg Fin.val (dma_inj h); rw [loadSem_val, loadSem_val] at this; omega))
    · exact absurd (congrArg Fin.val (dma_inj h)) (by rw [loadSem_val, sendSem_val]; omega)
    · exact absurd (congrArg Fin.val (dma_inj h)) (by rw [loadSem_val, recvSem_val]; omega)
    · exact absurd (congrArg Fin.val (dma_inj h)) (by rw [loadSem_val, sendSem_val]; omega)
    · rw [sendSem_inj (dma_inj h)]
    · exact absurd (dma_inj h) (send_ne_recv i j)
    · exact absurd (congrArg Fin.val (dma_inj h)) (by rw [loadSem_val, recvSem_val]; omega)
    · exact absurd (dma_inj h).symm (send_ne_recv j i)
    · rw [recvSem_inj (dma_inj h)]
  disj := fun k w s h => by
    have hs : ((cfg0.spec w).sem s).val < 4 := by clear h; revert w s; decide
    rcases k with i | i | i
    · have := congrArg Fin.val (dma_inj h); rw [loadSem_val] at this; omega
    · have := congrArg Fin.val (dma_inj h); rw [sendSem_val] at this; omega
    · have := congrArg Fin.val (dma_inj h); rw [recvSem_val] at this; omega

theorem kcell_injective : Function.Injective kcell := by
  rintro ⟨c, k⟩ ⟨c', k'⟩ h
  have h1 : c = c' := by
    have := congrArg (fun g : GSem nD τ sig => g.1.1) h
    rcases k with _ | _ | _ <;> rcases k' with _ | _ | _ <;> exact this
  subst h1
  have h2 : (kcell (c, k)).2 = (kcell (c, k')).2 := congrArg Prod.snd h
  rcases k with ⟨⟩ | i | i <;> rcases k' with ⟨⟩ | j | j
  · rfl
  · exact absurd h2.symm (send_ne_bar j)
  · exact absurd h2.symm (recv_ne_bar j)
  · exact absurd h2 (send_ne_bar i)
  · rw [sendSem_inj (dma_inj h2)]
  · exact absurd (dma_inj h2) (send_ne_recv i j)
  · exact absurd h2 (recv_ne_bar i)
  · exact absurd (dma_inj h2).symm (send_ne_recv j i)
  · rw [recvSem_inj (dma_inj h2)]
def theCells : Finset (GSem nD τ sig) := Finset.univ.map ⟨kcell, kcell_injective⟩

/-- A device's duties as minted: fifteen of its barrier cell, one of each send and receive cell. -/
abbrev TK : Type := Fin 15 ⊕ Fin 15 ⊕ Fin 15
def tokOf (ct : Dev nD × TK) : GSem nD τ sig × ℕ × Fin 15 := match ct.2 with
  | .inl d => (barCell ct.1, 0, d)
  | .inr (.inl i) => (sendCell ct.1 i, 0, 0)
  | .inr (.inr i) => (recvCell ct.1 i, 0, 0)
theorem tokOf_injective : Function.Injective tokOf := by
  rintro ⟨c, k⟩ ⟨c', k'⟩ h
  have h1 : c = c' := by
    have := congrArg (fun g : GSem nD τ sig × ℕ × Fin 15 => g.1.1.1) h
    rcases k with _ | _ | _ <;> rcases k' with _ | _ | _ <;> exact this
  subst h1
  have h2 : (tokOf (c, k)).1.2 = (tokOf (c, k')).1.2 := congrArg (fun g : GSem nD τ sig × ℕ × Fin 15 => g.1.2) h
  have h3 : (tokOf (c, k)).2.2 = (tokOf (c, k')).2.2 := congrArg (fun g : GSem nD τ sig × ℕ × Fin 15 => g.2.2) h
  rcases k with i | i | i <;> rcases k' with j | j | j
  · rw [show i = j from h3]
  · exact absurd h2.symm (send_ne_bar j)
  · exact absurd h2.symm (recv_ne_bar j)
  · exact absurd h2 (send_ne_bar i)
  · rw [sendSem_inj (dma_inj h2)]
  · exact absurd (dma_inj h2) (send_ne_recv i j)
  · exact absurd h2 (recv_ne_bar i)
  · exact absurd (dma_inj h2).symm (send_ne_recv j i)
  · rw [recvSem_inj (dma_inj h2)]
def theToks : Finset (GSem nD τ sig × ℕ × Fin 15) := Finset.univ.map ⟨tokOf, tokOf_injective⟩

def u₀ : UU :=
  (initOf (Pipeline.cells cfgs cellOf_inj) (Pipeline.launchToks cfgs cellOf_inj), (initOf theCells theToks, 1))

/-- The duty tokens of device `c`'s own cells. -/
def toks (c : Dev nD) : sProp 𝕄 := bigSep Finset.univ fun t : TK => dutyTok ER (tokOf (c, t)).1 (tokOf (c, t)).2.1 (tokOf (c, t)).2.2

def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]; rfl
  iintro HX
  imod (Rounds.fund ER (rd m ρ) theCells theToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(loadSems c ∗ xferSems c) := by
  unfold Pipeline.ownSems0 xferSems loadSems
  rw [BI.bigSep_univ_sum, BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A statement at each of a device's cells, kind by kind. -/
theorem cells_eq (c : Dev nD) (Φ : GSem nD τ sig → sProp 𝕄) : (bigSep Finset.univ fun k : CK => Φ (kcell (c, k)))
    = iprop(Φ (barCell c) ∗ (bigSep Finset.univ fun i : Fin 15 => Φ (sendCell c i)) ∗ bigSep Finset.univ fun i : Fin 15 => Φ (recvCell c i)) := by
  rw [BI.bigSep_univ_sum, BI.bigSep_univ_sum, Finset.univ_unique, bigSep_singleton]; rfl

theorem positions_eq (c : Dev nD) : (bigSep Finset.univ fun k : CK => (atPos ER (kcell (c, k)) 0 ∅ 0 : sProp 𝕄)) = positions c :=
  cells_eq c fun g => atPos ER g 0 ∅ 0

theorem sems0_eq (c : Dev nD) :
    iprop(xferSems c ∗ unscopedSems0 c) ⊢ (bigSep Finset.univ fun k : CK => semVal (kcell (c, k)) 0 : sProp 𝕄) := by
  rw [unscopedSems0_eq, cells_eq c (fun g => semVal g 0)]
  unfold xferSems
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ loadSems c) := by
  unfold G
  rw [ownSems0_eq]
  iintro ⟨⟨HL, Hos⟩, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing the duties -/

/-- Barrier duty `j` of device `c` is paid by the device `j + 1` after it; -/
def dealBar : Dev nD × Fin 15 ≃ Dev nD × Fin 15 :=
  ⟨fun x => (fwd x.1 x.2, x.2.rev), fun x => (fwd x.1 x.2, x.2.rev),
    fun x => by show (fwd (fwd x.1 x.2) x.2.rev, x.2.rev.rev) = x; rw [fwd_rev, Fin.rev_rev],
    fun x => by show (fwd (fwd x.1 x.2) x.2.rev, x.2.rev.rev) = x; rw [fwd_rev, Fin.rev_rev]⟩
/-- the duty of receive cell `i` by the device `i + 1` before. -/
def dealRecv : Dev nD × Fin 15 ≃ Dev nD × Fin 15 :=
  ⟨fun x => (fwd x.1 x.2, x.2), fun x => (bwd x.1 x.2, x.2),
    fun x => by show (bwd (fwd x.1 x.2) x.2, x.2) = x; rw [bwd_fwd],
    fun x => by show (fwd (bwd x.1 x.2) x.2, x.2) = x; rw [fwd_bwd]⟩

theorem deal (e : Dev nD × Fin 15 ≃ Dev nD × Fin 15) (Φ : Dev nD × Fin 15 → sProp 𝕄) :
    (bigSep Finset.univ fun c : Dev nD => bigSep Finset.univ fun i : Fin 15 => Φ (c, i))
      = bigSep Finset.univ fun c : Dev nD => bigSep Finset.univ fun i : Fin 15 => Φ (e (c, i)) := by
  rw [← bigSep_univ_prod Φ, bigSep_univ_equiv e, bigSep_univ_prod]

theorem toks_around : (bigSep Finset.univ fun c : Dev nD => (toks c : sProp 𝕄)) ⊢ bigSep Finset.univ fun c : Dev nD => duties c := by
  have ht (c : Dev nD) : (toks c : sProp 𝕄) = iprop((bigSep Finset.univ fun d : Fin 15 => dutyTok ER (barCell c) 0 d)
      ∗ (bigSep Finset.univ fun i : Fin 15 => dutyTok ER (sendCell c i) 0 0) ∗ bigSep Finset.univ fun i : Fin 15 => dutyTok ER (recvCell c i) 0 0) := by
    unfold toks; rw [BI.bigSep_univ_sum, BI.bigSep_univ_sum]; rfl
  unfold duties
  rw [bigSep_congr fun c _ => ht c, bigSep_sep', bigSep_sep', bigSep_sep', bigSep_sep',
    deal dealBar (fun x => (dutyTok ER (barCell x.1) 0 x.2 : sProp 𝕄)), deal dealRecv (fun x => (dutyTok ER (recvCell x.1 x.2) 0 0 : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What is dealt to device `c` besides the invariants. -/
def linear (c : Dev nD) : sProp 𝕄 := iprop(positions c ∗ duties c ∗ loadSems c)

theorem ghost_intro (K : Dev nD × CK → ℕ) (c : Dev nD) : iprop(records m ρ K ∗ linear c) ⊢ G' m ρ c := by
  unfold linear G'
  iintro ⟨#HR, Hp, Hd, HL⟩
  isplitl [Hp Hd]
  · iexists K
    isplitr; · iexact HR
    isplitl [Hd] <;> iassumption
  iexact HL

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ loadSems c) : sProp 𝕄)
      ⊢ bigSep Finset.univ (G' m ρ) := by
  rw [bigSep_sep', bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · unfold linear
    rw [bigSep_sep', bigSep_sep']
    isplitl [Hat]
    · rw [← bigSep_congr fun c _ => positions_eq c]; iexact Hat
    isplitl [Htk] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {i j : Fin 15} : Iff (recvCell a i = recvCell b j) (a = b ∧ i = j) :=
  ⟨fun h => ⟨Fin.ext (congrArg (fun g : GSem nD τ sig => g.1.1.val) h), recvSem_inj (dma_inj (congrArg Prod.snd h))⟩, fun h => by rw [h.1, h.2]⟩

theorem owed_bar (d c : Dev nD) : O₀ d (barCell c) () = ∑ i : Fin 15, if d = bwd c i then 1 else 0 := by
  unfold O₀ Orecv Obar
  rw [Pi.add_apply, Finsupp.add_apply, sum_tally_apply, sum_tally_apply, ge_zero,
    Finset.sum_eq_zero (fun i _ => by rw [tallyAt_apply, if_neg fun h => recv_ne_bar i (congrArg Prod.snd h.1).symm]), Nat.zero_add]
  refine Finset.sum_congr rfl fun i _ => ?_
  rw [tallyAt_apply]
  by_cases h : d = bwd c i
  · subst h; rw [fwd_bwd, if_pos ⟨rfl, rfl⟩, if_pos rfl]
  · rw [if_neg (fun ⟨h1, _⟩ => h (by rw [bar_eq_iff.mp h1, bwd_fwd])), if_neg h]

theorem owed_recv (d c : Dev nD) (j : Fin 15) : O₀ d (recvCell c j) () = if d = bwd c j then N else 0 := by
  unfold O₀ Orecv Obar
  rw [Pi.add_apply, Finsupp.add_apply, sum_tally_apply, sum_tally_apply, ge_zero,
    Finset.sum_eq_zero (f := fun i => (tallyAt (barCell (fwd d i)) () 1 : CellTallies nD τ sig Unit) (recvCell c j) ())
      (fun i _ => by rw [tallyAt_apply, if_neg fun h => recv_ne_bar j (congrArg Prod.snd h.1)]), Nat.add_zero,
    Finset.sum_eq_single j (fun i _ hi => by rw [tallyAt_apply, if_neg fun h => hi (recv_eq_iff.mp h.1).2.symm]) (fun h => absurd (Finset.mem_univ _) h),
    tallyAt_apply]
  by_cases h : d = bwd c j
  · subst h; rw [fwd_bwd, if_pos ⟨rfl, rfl⟩, if_pos rfl]
  · rw [if_neg (fun ⟨h1, _⟩ => h (by rw [(recv_eq_iff.mp h1).1, bwd_fwd])), if_neg h]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (bwd c i) fun _ => 1).trans (if_pos (Finset.mem_univ _))]
  simp

theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (bwd c i) fun _ => N,
    if_pos (Finset.mem_univ _)]

theorem creds (c : Dev nD) : (Pipeline.launchCred O₀ c : sProp 𝕄) ⊢ credits c := by
  unfold Pipeline.launchCred credits
  rw [bigSep_univ_at _ (SemLoc.reg barS), launch_bar]
  refine sep_mono_right ?_
  rw [← bigSep_congr fun i _ => congrArg (fun t => (cred t : sProp 𝕄)) (launch_recv c i)]
  refine BIBase.Entails.trans ?_ (Entails.of_eq (bigSep_map (⟨fun i => SemLoc.dma (recvSem i), fun i j h => recvSem_inj (dma_inj h)⟩ : Fin 15 ↪ SemLoc sig)
    (s := Finset.univ) (Φ := fun sm => (cred (tallyOn ((c : Thread nD τ), sm) (launchCredit (Pipeline.owing O₀) 0 ((c : Thread nD τ), sm))) : sProp 𝕄))))
  refine bigSep_subset fun sm h => ?_
  obtain ⟨i, -, rfl⟩ := Finset.mem_map.mp h
  exact Finset.mem_erase.mpr ⟨recv_ne_bar i, Finset.mem_univ _⟩

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HW, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HW
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What the exit passes on: the barrier semaphore at zero, W as it was. -/
def Y (c : Dev nD) : sProp 𝕄 := iprop(unscopedSems0 c ∗ whole c main_arg1 (wc m ρ c))

theorem phi1_exit (c : Dev nD) :
    (dats m ρ 0 c).Φ (Fin.last cfg0.N) ⊢ iprop(Y m ρ c ∗ Pipeline.ownSems0 osem c ∗ Pipeline.scopedRest cfg0.spec c) := by
  unfold Y
  rw [show (dats m ρ 0 c).Φ (Fin.last cfg0.N) = Φ₁ m ρ c from rfl, scopedRest0_eq, ownSems0_eq, unscopedSems0_eq]
  unfold Φ₁ scratch
  iintro ⟨HW, Hr, Hb, HL, HX⟩
  isplitl [HW Hb]
  · isplitl [Hb] <;> iassumption
  isplitl [HL HX]
  · isplitl [HL] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact fun g u h => O₀_pos h
      · exact fun g u h => absurd h (Nat.lt_irrefl 0))

/-! ## The run -/

def finalA (c : Dev nD) (w : Fin cfg0.W) : Buf (Elt F) ((cfg0.win w).arr.view.loc (c : Thread nD τ)) := (dats m ρ 0 c).arrAt w cfg0.N

/-- Every device's arrays at the pipeline's final contents, W as it was. -/
def QC (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = wc m ρ c

def QY (c : Dev nD) (s : MemSt nD τ sig (Elt F)) : Prop :=
  (∀ sm : SemLoc sig, sm.isScoped .tc = false → s.sem ((c.tc : Thread nD τ), sm) = 0) ∧ s.mem ((c : Thread nD τ).loc main_arg1) = wc m ρ c

theorem read_Y (c : Dev nD) (s' : Phys nD τ sig (Elt F)) :
    iprop(Y m ρ c ∗ emp ∗ SI s') ⊢ (|={Set.univ}=> iprop(⌜QY m ρ c s'.mem⌝ ∗ SI s') : sProp 𝕄) := by
  unfold Y
  iintro ⟨⟨Hu, HW⟩, -, HSI⟩
  icombine HSI HW gives %hw
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => by simpa using hw i⟩
  iexact HSI

set_option maxRecDepth 8000 in
/-- On the mesh of sixteen devices, for any float values, from any memory with zero counters: every weakly fair execution
    terminates, with each device's arrays at the computed contents and every semaphore at zero. -/
theorem run_main : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show BI.own (((Emb.inl).trans embR) (initOf theCells theToks)) ⊢ (|==> bigSep Finset.univ (G m ρ) : sProp 𝕄) from fund_cells m ρ) $$ HX with HG
      imodintro
      isplitl [HP] <;> iassumption)
    (hglob := glob m ρ)
    (hA := fun _ _ => rfl) (hpf := fun _ k => k.elim0)
    (X := start m ρ) (Y := Y m ρ) (Z := fun _ => iprop(emp))
    (hX := start_intro m ρ) (hin := phi0_intro m ρ) (hout := phi1_exit m ρ)
    (QY := QY m ρ) (hY := read_Y m ρ)
    (hQ := fun _ h hs => ⟨fun c => ⟨(h c).1, (h c).2.2.2⟩, sem_eq_zero hs fun c => (h c).2.2.1⟩)

/-- An input's array after the run holds what it held. -/
theorem finalA_in (c : Dev nD) (w : Fin 4) (hw : w.val < 3) : finalA m ρ c w = (s₀ m ρ).mem ((cfg0.win w).arr.view.loc (c : Thread nD τ)) :=
  (dats (F := F) m ρ 0 c).arrAt_in w (by revert w; decide) _

end Cert.RunProof

end
-- ==== Proof.Value.lean ====
/-
The values at the ideal instance: what a device's result holds, element by element, is the reference's own expression.
-/
module

public import proofs.«01_k».proof.Proof.Launch
public import proofs.«01_k».proof.Proof.Gen.ReferenceIdeal.Run
public import Idealize.ShloMosaic.Lib.Pointwise
public import Idealize.ShloMosaic.Lib.Layout
public import Idealize.ShloMosaic.Lib.Pipeline.ValueKit

@[expose] public section

noncomputable section

namespace Cert.RunProof

open Cert.KernelIdeal Cert.KernelIdeal.Gen
open Idealize.ShloMosaic Idealize.ShloMosaic.TcCoe
open Idealize.SL.Sem
open Idealize.ShloMosaic.Pipeline (Dat)

/-! ## The quantiser -/

/-- The two ends of the quantiser's range. -/
theorem ofBits_hi : Ideal.ofBits .f32 0x42FE0000#32 = ((127 : ℝ) : EReal) := by
  simp [Ideal.ofBits, Ideal.ieee]; rw [← EReal.coe_mul]; norm_num
theorem ofBits_lo : Ideal.ofBits .f32 0xC2FE0000#32 = ((-127 : ℝ) : EReal) := by
  simp [Ideal.ofBits, Ideal.ieee]; rw [← EReal.coe_mul]; norm_num

/-- To the nearest integer, ties to even, within ±127. -/
def quant (z : EReal) : EReal :=
  min (Ideal.ofBits .f32 0x42FE0000#32) (max (Ideal.ofBits .f32 0xC2FE0000#32) (Ideal.liftRound Ideal.roundHalfEven z))

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- A quantised value is an integer that eight bits hold. -/
theorem quant_int (z : EReal) : ∃ n : ℤ, quant z = ((n : ℝ) : EReal) ∧ -127 ≤ n ∧ n ≤ 127 := by
  unfold quant
  rw [ofBits_hi, ofBits_lo]
  induction z with
  | bot => exact ⟨-127, by rw [show Ideal.liftRound Ideal.roundHalfEven ⊥ = ⊥ from rfl, max_bot_right, ← coe_min]; norm_num, by norm_num, by norm_num⟩
  | top => exact ⟨127, by rw [show Ideal.liftRound Ideal.roundHalfEven ⊤ = ⊤ from rfl, max_top_right, min_top_right]; norm_num, by norm_num, by norm_num⟩
  | coe r =>
    refine ⟨min 127 (max (-127) (Ideal.roundHalfEven r)), ?_, by omega, by omega⟩
    rw [show Ideal.liftRound Ideal.roundHalfEven (r : EReal) = ((Ideal.roundHalfEven r : ℝ) : EReal) from rfl, ← coe_max, ← coe_min]
    push_cast; rfl

/-- Eight signed bits carry a quantised value exactly. -/
theorem carry_quant (z : EReal) : (((Ideal.fptosi 8 (quant z)).toInt : ℝ) : EReal) = quant z := by
  obtain ⟨n, h, hl, hh⟩ := quant_int z
  rw [h]
  have hc : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]; norm_num; omega
  unfold Ideal.fptosi
  rw [hc, BitVec.toInt_ofInt, Int.bmod_def]
  congr 2
  split <;> omega

/-- The gate: a product with the logistic is a quotient. -/
theorem mul_logistic (x y : EReal) : x * Ideal.logistic y = Ideal.div x (1 + Ideal.exp (-y)) := by
  have h0 : (1 : EReal) + Ideal.exp (-y) ≠ 0 := by
    have he : (0 : EReal) ≤ Ideal.exp (-y) := by
      generalize -y = z
      induction z with
      | bot => exact le_refl _
      | top => exact le_top
      | coe r => exact EReal.coe_nonneg.mpr (Real.exp_pos r).le
    exact (lt_of_lt_of_le zero_lt_one (le_add_of_nonneg_right he)).ne'
  unfold Ideal.logistic Ideal.div
  rw [if_neg h0, if_neg h0, one_mul]

/-! ## The kernel's side -/

variable (m : (ℓ : Loc nD τ sig) → Buf (Elt Ideal) ℓ) (ρ : Dev nD → PrngReg)

theorem x_read (c : Dev nD) : xstg m ρ c = m ((c : Thread nD τ).loc main_arg0) := by
  funext i; unfold xstg; blk_simp
  show m ((c : Thread nD τ).loc main_arg0) _ = _
  congr 1
  funext a; apply Fin.ext; fin_cases a <;> (blk_simp; try simp) <;> rfl
theorem sx_read (c : Dev nD) : sxstg m ρ c = m ((c : Thread nD τ).loc main_arg2) := by
  funext i; unfold sxstg; blk_simp
  show m ((c : Thread nD τ).loc main_arg2) _ = _
  congr 1
  funext a; apply Fin.ext; fin_cases a <;> (blk_simp; try simp) <;> rfl
theorem sw_read (c : Dev nD) : swstg m ρ c = m ((c : Thread nD τ).loc main_arg3) := by
  funext i; unfold swstg; blk_simp
  show m ((c : Thread nD τ).loc main_arg3) _ = _
  congr 1
  funext a; apply Fin.ext; fin_cases a <;> (blk_simp; try simp) <;> rfl

/-- Device `c`'s x, W and scales, as the program was given them. -/
abbrev xC (c : Dev nD) : S256x4096.Idx → EReal := m ((c : Thread nD τ).loc main_arg0)
abbrev wC (c : Dev nD) : S4096x2048.Idx → EReal := m ((c : Thread nD τ).loc main_arg1)
abbrev aC (c : Dev nD) : S1.Idx → EReal := m ((c : Thread nD τ).loc main_arg2)
abbrev bC (c : Dev nD) : S1.Idx → EReal := m ((c : Thread nD τ).loc main_arg3)

theorem s1_idx (i j : S1.Idx) : i = j := funext fun a => by fin_cases a; exact Subsingleton.elim (α := Fin 1) _ _

theorem scale_apply (c : Dev nD) : scale m ρ c = aC m c (ix1 0) * bC m c (ix1 0) := by
  unfold scale k0_pay2
  rw [sx_read, sw_read]
  exact congrArg₂ (· * ·) (congrArg (aC m c) (s1_idx _ _)) (congrArg (bC m c) (s1_idx _ _))

theorem wX_apply (c : Dev nD) (o : Fin 16) (k : Fin 4096) (l : Fin 128) :
    wX m ρ c o (ix2 k l) = wC m c (ix2 k ⟨128 * ((c.val + o.val) % 16) + l.val, by omega⟩) := by
  show wC m c ((wRect c o).emb (ix2 k l)) = _
  congr 1
  funext a
  fin_cases a
  · apply Fin.ext; show (k0_off1 c (BitVec.ofNat 32 o.val)) 0 + 1 * k.val = k.val; rw [k0_off1_eq]; simp
  · apply Fin.ext; show (k0_off1 c (BitVec.ofNat 32 o.val)) 1 + 1 * l.val = 128 * ((c.val + o.val) % 16) + l.val; rw [k0_off1_eq]; simp

theorem wV_apply (c : Dev nD) (o : Fin 16) (k : Fin 4096) (l : Fin 128) : wV m ρ c o (ix3 0 k l) = wX m ρ c o (ix2 k l) := by
  unfold wV
  congr 1
  rw [Equiv.symm_apply_eq]
  refine Eq.trans ?_ (Shape.reshapeEquiv_cons_one _ _).symm
  funext a; fin_cases a <;> rfl

/-- The products of row `r` of a device's rows of x with column `l` of W, added up. -/
def accK (c : Dev nD) (r : Fin 256) (l : Fin 2048) : EReal := ∑ k : Fin 4096, xC m c (ix2 r k) * wC m c (ix2 k l)

theorem blk_apply (s : Dev nD) (o : Fin 16) (r : Fin 256) (l : Fin 128) (q : Fin 2048) (hq : q.val = 128 * ((s.val + o.val) % 16) + l.val) :
    blk m ρ s o (ix2 r l) = Ideal.fptosi 8 (quant (Ideal.div (accK m s r q) (1 + Ideal.exp (-(accK m s r q * scale m ρ s))))) := by
  rw [← mul_logistic]
  unfold blk k0_pay4 k0_pay3 accK
  rw [x_read]
  pointwise [wV_apply, wX_apply]
  rw [show (⟨128 * ((s.val + o.val) % 16) + l.val, by omega⟩ : Fin 2048) = q from Fin.ext hq.symm]
  rfl

/-- Device `c`'s result at row `i`, column `l`: row `i` of x is row `i mod 256` of device `i / 256`. -/
theorem out_apply (c : Dev nD) (i : Fin 4096) (l : Fin 128) :
    outAt m ρ c (ix2 i l) = quant (Ideal.div (accK m (⟨i.val / 256, by omega⟩ : Fin 16) ⟨i.val % 256, by omega⟩ ⟨128 * c.val + l.val, by have h : c.val < 16 := c.isLt; omega⟩)
        (1 + Ideal.exp (-(accK m (⟨i.val / 256, by omega⟩ : Fin 16) ⟨i.val % 256, by omega⟩ ⟨128 * c.val + l.val, by have h : c.val < 16 := c.isLt; omega⟩
          * scale m ρ (⟨i.val / 256, by omega⟩ : Fin 16))))) * scale m ρ c := by
  unfold outAt k0_pay1 k0_pay26 k0_pay27
  pointwise
  have hy : yb m ρ c (ix2 i l) = blk m ρ (⟨i.val / 256, by omega⟩ : Fin 16) (relOff (⟨i.val / 256, by omega⟩ : Fin 16) c) (ix2 (⟨i.val % 256, by omega⟩ : Fin 256) l) := by
    unfold yb; congr 1
    funext a; fin_cases a <;> rfl
  rw [hy, blk_apply m ρ _ _ _ _ ⟨128 * c.val + l.val, by have h : c.val < 16 := c.isLt; omega⟩ (by have h : c.val < 16 := c.isLt; show 128 * c.val + l.val = 128 * ((i.val / 256 + (c.val + 16 - i.val / 256) % 16) % 16) + l.val; omega)]
  exact congrArg (· * scale m ρ c) (carry_quant _)

theorem final_out (c : Dev nD) : (dats (F := Ideal) m ρ 0 c).arrAt 3 cfg0.N = outAt m ρ c := by
  refine (dats m ρ 0 c).arrAt_eq_of_after_last (3 : Fin 4) t0_0 (by decide +kernel) _ fun j => ?_
  blk_simp
  show outAt m ρ c j = outAt m ρ c _
  congr 1

/-! ## The reference's side -/

end Cert.RunProof

namespace Cert.RefProof

open Idealize.ShloMosaic Cert.RunProof Cert.ReferenceIdeal Cert.ReferenceIdeal.Gen

variable (X : FVec Ideal S4096x4096 .f32) (W : FVec Ideal S4096x2048 .f32) (a b : FVec Ideal S1 .f32)

/-- What the reference leaves, -/
def refOut : FVec Ideal S4096x2048 .f32 :=
  mulf (minimumf (broadcastInDim S4096x2048 ![] bcast_S_S4096x2048 (id (constant S_ .f32 0x42FE0000#32))) (maximumf (broadcastInDim S4096x2048 ![] bcast_S_S4096x2048 (id (constant S_ .f32 0xC2FE0000#32))) (Host.roundeven (Host.divf (Host.dotGeneral dot_S4096x4096_S4096x2048_S4096x2048_1_0_0_1_n_n none X W) (addf (broadcastInDim S4096x2048 ![] bcast_S_S4096x2048 (constant S_ .f32 0x3F800000#32)) (Host.exp (Host.negf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b))))))))))) (broadcastInDim S4096x2048 ![0, 1] bcast_S1x1_S4096x2048_0_1 (broadcastInDim S1x1 ![1] bcast_S1_S1x1_1 (mulf a b)))

/-- the products it adds up, -/
def accR (r : Fin 4096) (l : Fin 2048) : EReal := ∑ k : Fin 4096, X (ix2 r k) * W (ix2 k l)

/-- element by element. -/
theorem ref_apply (r : Fin 4096) (l : Fin 2048) :
    refOut X W a b (ix2 r l) = quant (Ideal.div (accR X W r l) (1 + Ideal.exp (-(accR X W r l * (a (ix1 0) * b (ix1 0)))))) * (a (ix1 0) * b (ix1 0)) := by
  unfold refOut accR quant
  pointwise
  rfl

end Cert.RefProof

end
-- ==== Proof.Near.lean ====
/-
How far the reference is from the same lines without a quantiser: half a step.
-/
module

public import proofs.«01_k».proof.Proof.Value
public import proofs.«01_k».proof.Post_near_reference

@[expose] public section

noncomputable section

namespace Cert.NearProof

open Idealize.ShloMosaic Cert.RunProof Cert.RefProof Cert.Post_near_reference

instance facts : Cert.Post_near_reference.Facts where
  bcast_S1_S1x1_1 := by decide
  bcast_S1x1_S4096x2048_0_1 := by decide
  bcast_S_S4096x2048 := by decide
  bcast_S_S1 := by decide
  dot_S4096x4096_S4096x2048_S4096x2048_1_0_0_1_n_n_wf := by decide

/-! ## Real numbers -/

theorem ofBits_half : Ideal.ofBits .f32 0x3F000000#32 = ((1 / 2 : ℝ) : EReal) := by
  simp [Ideal.ofBits, Ideal.ieee]; rw [← EReal.coe_mul]; norm_num
theorem ofBits_60 : Ideal.ofBits .f32 0x42700000#32 = ((60 : ℝ) : EReal) := by
  simp [Ideal.ofBits, Ideal.ieee]; rw [← EReal.coe_mul]; norm_num
theorem ofBits_neg60 : Ideal.ofBits .f32 0xC2700000#32 = ((-60 : ℝ) : EReal) := by
  simp [Ideal.ofBits, Ideal.ieee]; rw [← EReal.coe_mul]; norm_num

/-- Rounding moves a number by at most a half. -/
theorem round_near (g : ℝ) : |(Ideal.roundHalfEven g : ℝ) - g| ≤ 1 / 2 := by
  have h0 := Int.floor_le g
  have h1 := Int.lt_floor_add_one g
  unfold Ideal.roundHalfEven
  rw [abs_le]
  simp only
  split_ifs <;> push_cast <;> constructor <;> linarith

/-- Limiting to ±127 moves two numbers no further apart. -/
theorem limit_near (n g : ℝ) (h : |n - g| ≤ 1 / 2) : |min 127 (max (-127) n) - min 127 (max (-127) g)| ≤ 1 / 2 := by
  refine (abs_min_sub_min_le_max _ _ _ _).trans (max_le (by norm_num) ?_)
  exact (abs_max_sub_max_le_max _ _ _ _).trans (max_le (by norm_num) h)

/-- Limiting to ±127 and scaling is scaling and limiting to ±127 steps. -/
theorem limit_scale (g s : ℝ) : min (127 * |s|) (max (-127 * |s|) (g * s)) = min 127 (max (-127) g) * s := by
  rcases le_total 0 s with hs | hs
  · rw [abs_of_nonneg hs, min_mul_of_nonneg _ _ hs, max_mul_of_nonneg _ _ hs]
  · rw [abs_of_nonpos hs]
    rcases le_total g (-127) with h | h
    · rw [max_eq_left h, max_eq_right (by nlinarith), min_eq_left (by nlinarith), min_eq_right (by norm_num)]; ring
    · rw [max_eq_right h]
      rcases le_total g 127 with k | k
      · rw [max_eq_right (by nlinarith), min_eq_right (by nlinarith), min_eq_right k]
      · rw [max_eq_left (by nlinarith), min_eq_right (by nlinarith), min_eq_left k]; ring

/-! ## Extended reals -/

/-- The magnitude, as the programs compute it. -/
def mag (z : EReal) : EReal := max z (-z)

theorem mag_coe (r : ℝ) : mag r = ((|r| : ℝ) : EReal) := by
  unfold mag; rw [← EReal.coe_neg, ← coe_max]; rfl
theorem mag_nonneg (z : EReal) : 0 ≤ mag z := by
  unfold mag
  rcases le_total 0 z with h | h
  · exact le_max_of_le_left h
  · exact le_max_of_le_right (EReal.neg_nonneg.mpr h)
theorem mag_top : mag ⊤ = ⊤ := by unfold mag; exact max_eq_left le_top
theorem mag_bot : mag ⊥ = ⊤ := by unfold mag; rw [EReal.neg_bot]; exact max_eq_right le_top

theorem div_zero_num (z : EReal) : Ideal.div 0 (1 + Ideal.exp z) = 0 := by
  have h := mul_logistic 0 (-z)
  rw [zero_mul, neg_neg] at h
  exact h.symm

theorem div_coe (x z : ℝ) : Ideal.div (x : EReal) (((1 : ℝ) : EReal) + Ideal.exp (z : EReal)) = ((x / (1 + Real.exp z) : ℝ) : EReal) := by
  have hp : 0 < 1 + Real.exp z := by positivity
  rw [show Ideal.exp (z : EReal) = ((Real.exp z : ℝ) : EReal) from rfl, ← EReal.coe_add]
  unfold Ideal.div
  rw [if_neg (by exact_mod_cast hp.ne'), ← EReal.coe_inv, ← EReal.coe_mul]; rfl

theorem quant_coe (g : ℝ) : quant (g : EReal) = ((min 127 (max (-127) (Ideal.roundHalfEven g : ℝ)) : ℝ) : EReal) := by
  unfold quant
  rw [ofBits_hi, ofBits_lo, show Ideal.liftRound Ideal.roundHalfEven (g : EReal) = ((Ideal.roundHalfEven g : ℝ) : EReal) from rfl, ← coe_max, ← coe_min]

/-- The bound at one element: products added up to `A`, scale `S`. -/
theorem near (A S : EReal) (h : mag (A * S) ≤ ((60 : ℝ) : EReal)) :
    mag (quant (Ideal.div A (1 + Ideal.exp (-(A * S)))) * S
      - min (((127 : ℝ) : EReal) * mag S) (max (((-127 : ℝ) : EReal) * mag S)
          (Ideal.div (A * S) (1 + Ideal.exp (-(min ((60 : ℝ) : EReal) (max ((-60 : ℝ) : EReal) (A * S))))))))
      ≤ ((1 / 2 : ℝ) : EReal) * mag S := by
  have m0 : mag 0 = 0 := by rw [← EReal.coe_zero, mag_coe, abs_zero]
  by_cases hS : S = 0
  · subst hS
    rw [m0, mul_zero, mul_zero, mul_zero, mul_zero, mul_zero, div_zero_num, max_self, min_self, sub_zero, m0]
  by_cases hA : A = 0
  · subst hA
    have q0 : quant 0 = 0 := by
      rw [← EReal.coe_zero, quant_coe]
      have : Ideal.roundHalfEven 0 = 0 := by simp [Ideal.roundHalfEven]
      rw [this]; norm_num
    have p : 0 ≤ ((127 : ℝ) : EReal) * mag S := mul_nonneg (by exact_mod_cast (by norm_num : (0:ℝ) ≤ 127)) (mag_nonneg S)
    have n : ((-127 : ℝ) : EReal) * mag S ≤ 0 := by
      rw [EReal.coe_neg, EReal.neg_mul]
      exact EReal.neg_le_neg_iff.mpr p |>.trans_eq neg_zero
    rw [zero_mul, div_zero_num, div_zero_num, q0, zero_mul, max_eq_right n, min_eq_right p, sub_zero, m0]
    exact mul_nonneg (by exact_mod_cast (by norm_num : (0:ℝ) ≤ 1 / 2)) (mag_nonneg S)
  have no : ¬ (⊤ : EReal) ≤ ((60 : ℝ) : EReal) := not_le.mpr (EReal.coe_lt_top 60)
  have fin : A * S ≠ ⊤ ∧ A * S ≠ ⊥ := ⟨fun e => no (by rwa [e, mag_top] at h), fun e => no (by rwa [e, mag_bot] at h)⟩
  have inf : ∀ T U : EReal, U ≠ 0 → (T = ⊤ ∨ T = ⊥) → T * U = ⊤ ∨ T * U = ⊥ := by
    intro T U hU hT
    rcases lt_or_gt_of_ne hU with u | u <;> rcases hT with rfl | rfl
    · exact Or.inr (EReal.top_mul_of_neg u)
    · exact Or.inl (EReal.bot_mul_of_neg u)
    · exact Or.inl (EReal.top_mul_of_pos u)
    · exact Or.inr (EReal.bot_mul_of_pos u)
  have fA : A ≠ ⊤ ∧ A ≠ ⊥ := ⟨fun e => (inf A S hS (Or.inl e)).elim fin.1 fin.2, fun e => (inf A S hS (Or.inr e)).elim fin.1 fin.2⟩
  have fS : S ≠ ⊤ ∧ S ≠ ⊥ := by
    rw [mul_comm] at fin
    exact ⟨fun e => (inf S A hA (Or.inl e)).elim fin.1 fin.2, fun e => (inf S A hA (Or.inr e)).elim fin.1 fin.2⟩
  obtain ⟨t, rfl⟩ : ∃ t : ℝ, A = t := ⟨A.toReal, (EReal.coe_toReal fA.1 fA.2).symm⟩
  obtain ⟨s, rfl⟩ : ∃ s : ℝ, S = s := ⟨S.toReal, (EReal.coe_toReal fS.1 fS.2).symm⟩
  rw [← EReal.coe_mul, mag_coe, EReal.coe_le_coe_iff, abs_le] at h
  rw [← EReal.coe_mul, ← coe_max, ← coe_min, max_eq_right h.1, min_eq_right h.2, ← EReal.coe_neg, ← EReal.coe_one, div_coe, div_coe, quant_coe, mag_coe,
    ← EReal.coe_mul, ← EReal.coe_mul, ← EReal.coe_mul, ← EReal.coe_mul, ← coe_max, ← coe_min, ← EReal.coe_sub, mag_coe, EReal.coe_le_coe_iff, mul_div_right_comm, limit_scale, ← sub_mul, abs_mul]
  exact mul_le_mul_of_nonneg_right (limit_near _ _ (round_near _)) (abs_nonneg s)

/-! ## The claim's function -/

variable (X : FVec Ideal S4096x4096 .f32) (W : FVec Ideal S4096x2048 .f32) (a b : FVec Ideal S1 .f32)

/-- Element by element, the function of the claim is the bound or its exception. -/
theorem fn_apply (o : FVec Ideal S4096x2048 .f32) (r : Fin 4096) (l : Fin 2048) : fn (F := Ideal) X W a b o (ix2 r l)
    = IntOp.ori
      (BitVec.ofBool (decide (mag (o (ix2 r l) - min (Ideal.ofBits .f32 0x42FE0000#32 * mag (a (ix1 0) * b (ix1 0))) (max (Ideal.ofBits .f32 0xC2FE0000#32 * mag (a (ix1 0) * b (ix1 0)))
          (Ideal.div (accR X W r l * (a (ix1 0) * b (ix1 0))) (1 + Ideal.exp (-(min (Ideal.ofBits .f32 0x42700000#32) (max (Ideal.ofBits .f32 0xC2700000#32) (accR X W r l * (a (ix1 0) * b (ix1 0)))))))))
          ) ≤ Ideal.ofBits .f32 0x3F000000#32 * mag (a (ix1 0) * b (ix1 0)))))
      (BitVec.ofBool (decide (Ideal.ofBits .f32 0x42700000#32 < mag (accR X W r l * (a (ix1 0) * b (ix1 0)))))) := by
  unfold fn fn_part1 fn_clip fn_clip_0 accR mag
  pointwise
  rfl

theorem true_or (k : Bool) : IntOp.ori (BitVec.ofBool true) (BitVec.ofBool k) = 1#1 := by cases k <;> rfl
theorem or_true (k : Bool) : IntOp.ori (BitVec.ofBool k) (BitVec.ofBool true) = 1#1 := by cases k <;> rfl

/-- It holds of the reference's result everywhere. -/
theorem near_all : fn (F := Ideal) X W a b (refOut X W a b) = fun _ => 1#1 := by
  funext i
  obtain ⟨r, l, rfl⟩ : ∃ (r : Fin 4096) (l : Fin 2048), i = ix2 r l := ⟨i 0, i 1, funext fun d => by fin_cases d <;> rfl⟩
  rw [fn_apply, ref_apply, ofBits_hi, ofBits_lo, ofBits_60, ofBits_neg60, ofBits_half]
  by_cases h : mag (accR X W r l * (a (ix1 0) * b (ix1 0))) ≤ ((60 : ℝ) : EReal)
  · rw [decide_eq_true (near _ _ h)]
    exact true_or _
  · rw [decide_eq_true (not_le.mp h)]
    exact or_true _

end Cert.NearProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Near
public import Idealize.ShloMosaic.Adequacy
public import Idealize.ShloMosaic.Init

@[expose] public section

noncomputable section

namespace Cert.Proof

open Idealize.ShloMosaic Idealize.ShloMosaic.TcCoe Idealize.SL.Sem Cert.RunProof

/-! ## The frames -/

/-- What a run of the kernel leaves: the arguments as they were, the result the exchanged blocks. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_v1) = finalA m ρ c 3)
      ∧ r.2.sem = fun _ => 0) :=
  (θ_run Cert.KernelIdeal.defs _ _).mono (fun r h => ⟨fun c => ⟨((h.1 c).1 0).trans (finalA_in m ρ c 0 (by decide)), (h.1 c).2,
    ((h.1 c).1 1).trans (finalA_in m ρ c 1 (by decide)), ((h.1 c).1 2).trans (finalA_in m ρ c 2 (by decide)), (h.1 c).1 3⟩, h.2⟩) (run_main m ρ)

/-- The frame, at any floats. -/
theorem kernel_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (kernel_run m ρ)

theorem frame_ideal : Cert.quiescent_KernelIdeal := fun m ρ _ => kernel_frame m ρ

/-- The two kernels are one text: their body tables are one table, -/
theorem defs₀_same {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_same {F : FTy → Type} [FloatOps F] :
    @Cert.Kernel.defs F _ Cert.Kernel.Gen.facts = @Cert.KernelIdeal.defs F _ Cert.KernelIdeal.Gen.facts := by
  unfold Cert.Kernel.defs Cert.KernelIdeal.defs
  rw [defs₀_same]
  rfl

/-- and the machine's own run is the same run at the machine's words. -/
theorem frame_kernel : Cert.quiescent_Kernel := fun m ρ _ => by
  rw [defs_same]
  exact kernel_frame (F := Bits) m ρ

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-! ## The value -/

/-- Two indices of a matrix with the same coordinates. -/
theorem ix2_ext {a b : Nat} {i j : (⟨2, ![a, b]⟩ : Shape).Idx} (h0 : (i 0).val = (j 0).val) (h1 : (i 1).val = (j 1).val) : i = j :=
  funext fun d => by fin_cases d; exacts [Fin.ext h0, Fin.ext h1]

/-- What every device is left with is its columns of the reference's result, -/
theorem out_block (m : (ℓ : Loc Cert.KernelIdeal.nD Cert.KernelIdeal.τ Cert.KernelIdeal.sig) → Buf (Elt Ideal) ℓ)
    (ρ : Dev Cert.KernelIdeal.nD → PrngReg) (X : FVec Ideal Cert.ReferenceIdeal.S4096x4096 .f32) (W : FVec Ideal Cert.ReferenceIdeal.S4096x2048 .f32)
    (a b : FVec Ideal Cert.ReferenceIdeal.S1 .f32)
    (hX : ∀ c : Dev Cert.KernelIdeal.nD, xC m c = Layout.block ⟨2, ![256, 4096]⟩ ⟨2, ![4096, 4096]⟩ 0 16 c X)
    (hW : ∀ c, wC m c = W) (ha : ∀ c, aC m c = a) (hb : ∀ c, bC m c = b) (c : Dev Cert.KernelIdeal.nD) :
    finalA m ρ c 3 = Layout.block ⟨2, ![4096, 128]⟩ ⟨2, ![4096, 2048]⟩ 1 16 c (Cert.RefProof.refOut X W a b) := by
  refine (final_out m ρ c).trans (funext fun i => ?_)
  obtain ⟨r, l, rfl⟩ : ∃ (r : Fin 4096) (l : Fin 128), i = ix2 r l := ⟨i 0, i 1, ix2_ext rfl rfl⟩
  have hc : c.val < 16 := c.isLt
  have e : (Layout.Tiles.idx (S := ⟨2, ![4096, 128]⟩) (T := ⟨2, ![4096, 2048]⟩) (a := 1) (k := 16) (by decide) c (ix2 r l))
      = ix2 r (⟨128 * c.val + l.val, by omega⟩ : Fin 2048) :=
    ix2_ext rfl (by show c.val * 128 + l.val = 128 * c.val + l.val; omega)
  rw [out_apply]
  refine Eq.trans ?_ (congrArg (Cert.RefProof.refOut X W a b) e).symm
  rw [Cert.RefProof.ref_apply]
  have hacc : accK m (⟨r.val / 256, by show r.val / 256 < 16; omega⟩ : Dev Cert.KernelIdeal.nD) (⟨r.val % 256, by omega⟩ : Fin 256) (⟨128 * c.val + l.val, by omega⟩ : Fin 2048)
      = Cert.RefProof.accR X W r (⟨128 * c.val + l.val, by omega⟩ : Fin 2048) := by
    unfold accK Cert.RefProof.accR
    refine Finset.sum_congr rfl fun k _ => ?_
    rw [hX, hW]
    refine congrArg (· * _) (congrArg X (ix2_ext ?_ rfl))
    show r.val / 256 * 256 + r.val % 256 = r.val
    omega
  rw [hacc, scale_apply, scale_apply, ha, hb, ha, hb]

theorem value : Cert.algebraic_KernelIdeal_ReferenceIdeal := fun m g m' g' _ hin => by
  refine ⟨Cert.RefProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨?_, (h.1 c).1, (h.1 c).2.1, (h.1 c).2.2.1, (h.1 c).2.2.2.1⟩) (kernel_run m g),
    (θ_run Cert.ReferenceIdeal.defs _ _).mono (fun _ h => h 0) (Cert.ReferenceIdeal.Value.run m' g')⟩
  exact (h.1 c).2.2.2.2.trans (out_block m g _ _ _ _ (fun c => (hin c).1) (fun c => (hin c).2.1) (fun c => (hin c).2.2.1) (fun c => (hin c).2.2.2) c)

/-- The reference's result is within half a step of the same lines without a quantiser. -/
theorem near : Cert.holds_ReferenceIdeal_near_reference := fun m g _ =>
  (θ_run Cert.ReferenceIdeal.defs _ _).mono (fun r h c => ⟨(h c).2.1, (h c).2.2.1, (h c).2.2.2.1, (h c).2.2.2.2,
    (congrArg (Cert.Post_near_reference.fn (F := Ideal) _ _ _ _) (h c).1).trans (Cert.NearProof.near_all _ _ _ _)⟩) (Cert.ReferenceIdeal.Value.run m g)

theorem claim : Cert.Claim := ⟨Cert.Kernel.Gen.facts, Cert.KernelIdeal.Gen.facts, Cert.ReferenceIdeal.Gen.facts, Cert.NearProof.facts,
  frame_kernel, frame_ideal, frame_ref, trivial, value, near⟩

end Cert.Proof

end
